-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_entries_finite [hPre_entries_finite : Cert.Pre_entries_finite.Facts] (m : (ℓ : Loc Cert.KernelIdeal.nD Cert.KernelIdeal.τ Cert.KernelIdeal.sig) → Buf (Elt Ideal) ℓ) : Prop :=
  ∀ c : Dev Cert.KernelIdeal.nD,
    (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_entries_finite [hPre_entries_finite : Cert.Pre_entries_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_entries_finite [hKernelIdeal : Cert.KernelIdeal.Facts] [hPre_entries_finite : Cert.Pre_entries_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_entries_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_entries_finite [hReferenceIdeal : Cert.ReferenceIdeal.Facts] [hPre_entries_finite : Cert.Pre_entries_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_entries_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_entries_finite [hKernelIdeal : Cert.KernelIdeal.Facts] [hReferenceIdeal : Cert.ReferenceIdeal.Facts] [hPre_entries_finite : Cert.Pre_entries_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_entries_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_entries_finite : Cert.Pre_entries_finite.Facts),
    quiescent_Kernel (hKernel := hKernel)
    ∧ quiescent_KernelIdeal (hKernelIdeal := hKernelIdeal)
    ∧ quiescent_KernelIdeal_pre_entries_finite (hKernelIdeal := hKernelIdeal) (hPre_entries_finite := hPre_entries_finite)
    ∧ quiescent_ReferenceIdeal (hReferenceIdeal := hReferenceIdeal)
    ∧ quiescent_ReferenceIdeal_pre_entries_finite (hReferenceIdeal := hReferenceIdeal) (hPre_entries_finite := hPre_entries_finite)
    ∧ preserves_Kernel_KernelIdeal
    ∧ algebraic_KernelIdeal_ReferenceIdeal_pre_entries_finite (hKernelIdeal := hKernelIdeal) (hReferenceIdeal := hReferenceIdeal) (hPre_entries_finite := hPre_entries_finite)
-- ==== Pre_entries_finite.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128x128 : Shape := ⟨3, ![1, 128, 128]⟩
abbrev S1 : Shape := ⟨1, ![1]⟩

class Facts : Prop where
  bcast_S_S1x10000x128 : S_.BroadcastsInDim S1x10000x128 (![] : Fin 0 → Fin S1x10000x128.rank)
  bcast_S_S10000x10000 : S_.BroadcastsInDim S10000x10000 (![] : Fin 0 → Fin S10000x10000.rank)
  bcast_S_S128x128 : S_.BroadcastsInDim S128x128 (![] : Fin 0 → Fin S128x128.rank)
  bcast_S_S128 : S_.BroadcastsInDim S128 (![] : Fin 0 → Fin S128.rank)
  bcast_S_S1x128x128 : S_.BroadcastsInDim S1x128x128 (![] : Fin 0 → Fin S1x128x128.rank)

variable [Facts]

def fn_part1 {F : FTy → Type} [FloatOps F] (main_v2 : IVec S1x10000x128 1) (main_v5 : IVec S1x10000x128 1) (main_v8 : IVec S10000x10000 1) (main_v11 : IVec S128x128 1) (main_v14 : IVec S128 1) (main_v16 : IVec S_ 1) (main_v17 : FVec F S1x128x128 .f32) : IVec S1x10000x128 1 × IVec S1x10000x128 1 × IVec S10000x10000 1 × IVec S128x128 1 × IVec S128 1 × IVec S_ 1 × IVec S1x128x128 1 :=
  let main_cst_5 : FVec F S_ .f32 := constant S_ .f32 0x7F800000#32
  let main_v18 : FVec F S1x128x128 .f32 := broadcastInDim S1x128x128 ![] bcast_S_S1x128x128 main_cst_5
  let main_v19 : IVec S1x128x128 1 := cmpf .olt main_v17 main_v18
  (main_v2, main_v5, main_v8, main_v11, main_v14, main_v16, main_v19)

def fn {F : FTy → Type} [FloatOps F] (main_arg0 : FVec F S1x10000x128 .f32) (main_arg1 : FVec F S1x10000x128 .f32) (main_arg2 : FVec F S10000x10000 .f32) (main_arg3 : FVec F S10000x10000 .f32) (main_arg4 : FVec F S10000x10000 .f32) (main_arg5 : FVec F S128x128 .f32) (main_arg6 : FVec F S128 .f32) (main_arg7 : FVec F S_ .f32) (main_arg8 : FVec F S1x128x128 .f32) (main_arg9 : FVec F S1 .f32) : IVec S1x10000x128 1 × IVec S1x10000x128 1 × IVec S10000x10000 1 × IVec S128x128 1 × IVec S128 1 × IVec S_ 1 × IVec S1x128x128 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_v3 : FVec F S1x10000x128 .f32 := Host.absf main_arg1
  let main_cst_0 : FVec F S_ .f32 := constant S_ .f32 0x7F800000#32
  let main_v4 : FVec F S1x10000x128 .f32 := broadcastInDim S1x10000x128 ![] bcast_S_S1x10000x128 main_cst_0
  let main_v5 : IVec S1x10000x128 1 := cmpf .olt main_v3 main_v4
  let main_v6 : FVec F S10000x10000 .f32 := Host.absf main_arg2
  let main_cst_1 : FVec F S_ .f32 := constant S_ .f32 0x7F800000#32
  let main_v7 : FVec F S10000x10000 .f32 := broadcastInDim S10000x10000 ![] bcast_S_S10000x10000 main_cst_1
  let main_v8 : IVec S10000x10000 1 := cmpf .olt main_v6 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S128 .f32 := Host.absf main_arg6
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S_ .f32 := Host.absf main_arg7
  let main_cst_4 : FVec F S_ .f32 := constant S_ .f32 0x7F800000#32
  let main_v16 : IVec S_ 1 := cmpf .olt main_v15 main_cst_4
  let main_v17 : FVec F S1x128x128 .f32 := Host.absf main_arg8
  fn_part1 (F := F) main_v2 main_v5 main_v8 main_v11 main_v14 main_v16 main_v17
-- ==== Kernel.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128x128 : Shape := ⟨3, ![1, 128, 128]⟩
abbrev S1 : Shape := ⟨1, ![1]⟩
abbrev S1x128 : Shape := ⟨2, ![1, 128]⟩
abbrev S1x1 : Shape := ⟨2, ![1, 1]⟩
abbrev S10000x128 : Shape := ⟨2, ![10000, 128]⟩
abbrev S2x128 : Shape := ⟨2, ![2, 128]⟩
abbrev S10000x2 : Shape := ⟨2, ![10000, 2]⟩
abbrev S10000x1 : Shape := ⟨2, ![10000, 1]⟩
abbrev S10000 : Shape := ⟨1, ![10000]⟩
abbrev S20000 : Shape := ⟨1, ![20000]⟩
abbrev S1x20000 : Shape := ⟨2, ![1, 20000]⟩
abbrev S200x10000 : Shape := ⟨2, ![200, 10000]⟩
abbrev S200x128 : Shape := ⟨2, ![200, 128]⟩
abbrev S400x10000 : Shape := ⟨2, ![400, 10000]⟩
abbrev S400x2 : Shape := ⟨2, ![400, 2]⟩
abbrev S400x128 : Shape := ⟨2, ![400, 128]⟩
abbrev S400 : Shape := ⟨1, ![400]⟩
abbrev S400x1 : Shape := ⟨2, ![400, 1]⟩

abbrev nBuf : Space → Nat
  | .hbm => 27
  | .vmem => 23
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S10000x10000, .f32⟩
  | .hbm, ⟨3, _⟩ => ⟨S10000x10000, .f32⟩
  | .hbm, ⟨4, _⟩ => ⟨S10000x10000, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1x128x128, .f32⟩
  | .hbm, ⟨9, _⟩ => ⟨S1, .f32⟩
  | .hbm, ⟨10, _⟩ => ⟨S1x128, .f32⟩
  | .hbm, ⟨11, _⟩ => ⟨S1x1, .f32⟩
  | .hbm, ⟨12, _⟩ => ⟨S1x1, .f32⟩
  | .hbm, ⟨13, _⟩ => ⟨S10000x128, .f32⟩
  | .hbm, ⟨14, _⟩ => ⟨S10000x128, .f32⟩
  | .hbm, ⟨15, _⟩ => ⟨S10000x128, .bf16⟩
  | .hbm, ⟨16, _⟩ => ⟨S10000x128, .bf16⟩
  | .hbm, ⟨17, _⟩ => ⟨S2x128, .f32⟩
  | .hbm, ⟨18, _⟩ => ⟨S128x128, .f32⟩
  | .hbm, ⟨19, _⟩ => ⟨S128x128, .f32⟩
  | .hbm, ⟨20, _⟩ => ⟨S10000x2, .f32⟩
  | .hbm, ⟨21, _⟩ => ⟨S10000x1, .f32⟩
  | .hbm, ⟨22, _⟩ => ⟨S10000, .f32⟩
  | .hbm, ⟨23, _⟩ => ⟨S10000x1, .f32⟩
  | .hbm, ⟨24, _⟩ => ⟨S10000, .f32⟩
  | .hbm, ⟨25, _⟩ => ⟨S20000, .f32⟩
  | .hbm, ⟨26, _⟩ => ⟨S1x20000, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S1x128, .f32⟩
  | .local _ .vmem, ⟨8, _⟩ => ⟨S1x1, .f32⟩
  | .local _ .vmem, ⟨9, _⟩ => ⟨S10000x128, .bf16⟩
  | .local _ .vmem, ⟨10, _⟩ => ⟨S10000x128, .bf16⟩
  | .local _ .vmem, ⟨11, _⟩ => ⟨S2x128, .f32⟩
  | .local _ .vmem, ⟨12, _⟩ => ⟨S2x128, .f32⟩
  | .local _ .vmem, ⟨13, _⟩ => ⟨S400x10000, .f32⟩
  | .local _ .vmem, ⟨14, _⟩ => ⟨S400x10000, .f32⟩
  | .local _ .vmem, ⟨15, _⟩ => ⟨S10000x128, .bf16⟩
  | .local _ .vmem, ⟨16, _⟩ => ⟨S10000x128, .bf16⟩
  | .local _ .vmem, ⟨17, _⟩ => ⟨S1x128, .f32⟩
  | .local _ .vmem, ⟨18, _⟩ => ⟨S1x1, .f32⟩
  | .local _ .vmem, ⟨19, _⟩ => ⟨S128x128, .f32⟩
  | .local _ .vmem, ⟨20, _⟩ => ⟨S1x1, .f32⟩
  | .local _ .vmem, ⟨21, _⟩ => ⟨S400x2, .f32⟩
  | .local _ .vmem, ⟨22, _⟩ => ⟨S400x2, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5_0 : Ref sig .tc := ⟨.hbm, 15, rfl⟩
abbrev main_call0_v5_1 : Ref sig .tc := ⟨.hbm, 16, rfl⟩
abbrev main_call0_v5_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_v0 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![51], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10000x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10000x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S400x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128x128 : Shape := ⟨3, ![1, 128, 128]⟩
abbrev S1 : Shape := ⟨1, ![1]⟩
abbrev S10000x128 : Shape := ⟨2, ![10000, 128]⟩
abbrev S1x1x128 : Shape := ⟨3, ![1, 1, 128]⟩
abbrev S1x128 : Shape := ⟨2, ![1, 128]⟩
abbrev S128x1x10000 : Shape := ⟨3, ![128, 1, 10000]⟩
abbrev S1x10000 : Shape := ⟨2, ![1, 10000]⟩
abbrev S1x20000 : Shape := ⟨2, ![1, 20000]⟩

abbrev nBuf : Space → Nat
  | .hbm => 119
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S10000x10000, .f32⟩
  | .hbm, ⟨3, _⟩ => ⟨S10000x10000, .f32⟩
  | .hbm, ⟨4, _⟩ => ⟨S10000x10000, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1x128x128, .f32⟩
  | .hbm, ⟨9, _⟩ => ⟨S1, .f32⟩
  | .hbm, ⟨10, _⟩ => ⟨S1x10000x128, .f32⟩
  | .hbm, ⟨11, _⟩ => ⟨S10000x128, .f32⟩
  | .hbm, ⟨12, _⟩ => ⟨S10000x128, .f32⟩
  | .hbm, ⟨13, _⟩ => ⟨S1x10000x128, .f32⟩
  | .hbm, ⟨14, _⟩ => ⟨S1x1x128, .f32⟩
  | .hbm, ⟨15, _⟩ => ⟨S1x10000x128, .f32⟩
  | .hbm, ⟨16, _⟩ => ⟨S1x10000x128, .f32⟩
  | .hbm, ⟨17, _⟩ => ⟨S_, .f32⟩
  | .hbm, ⟨18, _⟩ => ⟨S1x10000x128, .f32⟩
  | .hbm, ⟨19, _⟩ => ⟨S1x10000x128, .i1⟩
  | .hbm, ⟨20, _⟩ => ⟨S1x10000x128, .f32⟩
  | .hbm, ⟨21, _⟩ => ⟨S1x10000x128, .f32⟩
  | .hbm, ⟨22, _⟩ => ⟨S1x10000x128, .f32⟩
  | .hbm, ⟨23, _⟩ => ⟨S1x10000x128, .f32⟩
  | .hbm, ⟨24, _⟩ => ⟨S10000x128, .f32⟩
  | .hbm, ⟨25, _⟩ => ⟨S10000x128, .f32⟩
  | .hbm, ⟨26, _⟩ => ⟨S1x10000x128, .f32⟩
  | .hbm, ⟨27, _⟩ => ⟨S1x1x128, .f32⟩
  | .hbm, ⟨28, _⟩ => ⟨S1x10000x128, .f32⟩
  | .hbm, ⟨29, _⟩ => ⟨S1x10000x128, .f32⟩
  | .hbm, ⟨30, _⟩ => ⟨S_, .f32⟩
  | .hbm, ⟨31, _⟩ => ⟨S1x10000x128, .f32⟩
  | .hbm, ⟨32, _⟩ => ⟨S1x10000x128, .i1⟩
  | .hbm, ⟨33, _⟩ => ⟨S1x10000x128, .f32⟩
  | .hbm, ⟨34, _⟩ => ⟨S1x10000x128, .f32⟩
  | .hbm, ⟨35, _⟩ => ⟨S1x10000x128, .f32⟩
  | .hbm, ⟨36, _⟩ => ⟨S1x10000x128, .f32⟩
  | .hbm, ⟨37, _⟩ => ⟨S10000x128, .f32⟩
  | .hbm, ⟨38, _⟩ => ⟨S10000x128, .f32⟩
  | .hbm, ⟨39, _⟩ => ⟨S1x10000x128, .f32⟩
  | .hbm, ⟨40, _⟩ => ⟨S1x1x128, .f32⟩
  | .hbm, ⟨41, _⟩ => ⟨S1x10000x128, .f32⟩
  | .hbm, ⟨42, _⟩ => ⟨S1x10000x128, .f32⟩
  | .hbm, ⟨43, _⟩ => ⟨S_, .f32⟩
  | .hbm, ⟨44, _⟩ => ⟨S1x10000x128, .f32⟩
  | .hbm, ⟨45, _⟩ => ⟨S1x10000x128, .i1⟩
  | .hbm, ⟨46, _⟩ => ⟨S1x10000x128, .f32⟩
  | .hbm, ⟨47, _⟩ => ⟨S1x10000x128, .f32⟩
  | .hbm, ⟨48, _⟩ => ⟨S1x10000x128, .f32⟩
  | .hbm, ⟨49, _⟩ => ⟨S_, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S_, .f32⟩
  | .hbm, ⟨73, _⟩ => ⟨S1x128, .f32⟩
  | .hbm, ⟨74, _⟩ => ⟨S1x128, .f32⟩
  | .hbm, ⟨75, _⟩ => ⟨S1x10000x128, .f32⟩
  | .hbm, ⟨76, _⟩ => ⟨S10000x128, .f32⟩
  | .hbm, ⟨77, _⟩ => ⟨S10000x128, .f32⟩
  | .hbm, ⟨78, _⟩ => ⟨S1x10000x128, .f32⟩
  | .hbm, ⟨79, _⟩ => ⟨S1x1x128, .f32⟩
  | .hbm, ⟨80, _⟩ => ⟨S1x10000x128, .f32⟩
  | .hbm, ⟨81, _⟩ => ⟨S1x10000x128, .f32⟩
  | .hbm, ⟨82, _⟩ => ⟨S_, .f32⟩
  | .hbm, ⟨83, _⟩ => ⟨S1x10000x128, .f32⟩
  | .hbm, ⟨84, _⟩ => ⟨S1x10000x128, .i1⟩
  | .hbm, ⟨85, _⟩ => ⟨S1x10000x128, .f32⟩
  | .hbm, ⟨86, _⟩ => ⟨S1x10000x128, .f32⟩
  | .hbm, ⟨87, _⟩ => ⟨S1x10000x128, .f32⟩
  | .hbm, ⟨88, _⟩ => ⟨S1x1x128, .f32⟩
  | .hbm, ⟨89, _⟩ => ⟨S1x10000x128, .f32⟩
  | .hbm, ⟨90, _⟩ => ⟨S128x128, .f32⟩
  | .hbm, ⟨91, _⟩ => ⟨S128x1x10000, .f32⟩
  | .hbm, ⟨92, _⟩ => ⟨S1x10000, .f32⟩
  | .hbm, ⟨93, _⟩ => ⟨S_, .f32⟩
  | .hbm, ⟨94, _⟩ => ⟨S1x10000, .f32⟩
  | .hbm, ⟨95, _⟩ => ⟨S1x10000, .f32⟩
  | .hbm, ⟨96, _⟩ => ⟨S128x128, .f32⟩
  | .hbm, ⟨97, _⟩ => ⟨S128x1x10000, .f32⟩
  | .hbm, ⟨98, _⟩ => ⟨S1x10000, .f32⟩
  | .hbm, ⟨99, _⟩ => ⟨S_, .f32⟩
  | .hbm, ⟨100, _⟩ => ⟨S1x10000, .f32⟩
  | .hbm, ⟨101, _⟩ => ⟨S1x10000, .f32⟩
  | .hbm, ⟨102, _⟩ => ⟨S1x20000, .f32⟩
  | .hbm, ⟨103, _⟩ => ⟨S1x1x128, .f32⟩
  | .hbm, ⟨104, _⟩ => ⟨S1x10000x128, .f32⟩
  | .hbm, ⟨105, _⟩ => ⟨S128x128, .f32⟩
  | .hbm, ⟨106, _⟩ => ⟨S128x1x10000, .f32⟩
  | .hbm, ⟨107, _⟩ => ⟨S1x10000, .f32⟩
  | .hbm, ⟨108, _⟩ => ⟨S_, .f32⟩
  | .hbm, ⟨109, _⟩ => ⟨S1x10000, .f32⟩
  | .hbm, ⟨110, _⟩ => ⟨S1x10000, .f32⟩
  | .hbm, ⟨111, _⟩ => ⟨S128x128, .f32⟩
  | .hbm, ⟨112, _⟩ => ⟨S128x1x10000, .f32⟩
  | .hbm, ⟨113, _⟩ => ⟨S1x10000, .f32⟩
  | .hbm, ⟨114, _⟩ => ⟨S_, .f32⟩
  | .hbm, ⟨115, _⟩ => ⟨S1x10000, .f32⟩
  | .hbm, ⟨116, _⟩ => ⟨S1x10000, .f32⟩
  | .hbm, ⟨117, _⟩ => ⟨S1x20000, .f32⟩
  | .hbm, ⟨118, _⟩ => ⟨S1x20000, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩

abbrev nD : Nat := 1
abbrev τ : Topo := Topo.v7x

variable {F : FTy → Type} [FloatOps F]
-- ==== Proof.KernelIdeal.AugBody.lean ====
/- The first pallas_call's body, run at one grid point. The body has two cases, each under its own condition on the
   point: the first point stores both feature matrices and clears the column sums, every later point adds two rows
   into the column sums and leaves the feature matrices alone. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row 0 and row 1 of the column sums. -/
abbrev row0 : Rect S2x128 := Rect.unit (s := S2x128) ![0, 0] S1x128.size inb_S2x128_S1x128_0_0
abbrev row1 : Rect S2x128 := Rect.unit (s := S2x128) ![1, 0] S1x128.size inb_S2x128_S1x128_1_0

/-- The column sums after a later point, over what they were: each row gets its own adjacency block's column sum. -/
def sumsStep (f1 : Vec F S10000x128 .bf16) (x3 x4 : Vec F S200x10000 .f32) (x5 : Vec F S1x128 .f32) (x6 : Vec F S1x1 .f32)
    (s : Vec F S2x128 .f32) : Vec F S2x128 .f32 :=
  View.canon [⟨row1, k0_pay8 f1 x6 x5 x4 (View.ld s row1)⟩, ⟨row0, k0_pay7 f1 x6 x5 x3 (View.ld s row0)⟩]

/-- The two rows cover the column sums. -/
theorem rows_cover (p q : Vec F S1x128 .f32) (y : S2x128.Idx) :
    ∃ pc ∈ ([⟨row1, p⟩, ⟨row0, q⟩] : List (View.Piece (Elt F) S2x128 .f32)), y ∈ pc.1.set :=
  View.cover_of_tiled [⟨row1, p⟩, ⟨row0, q⟩] S1x128.size (by rfl) y

theorem whole_cover_feats (p : Vec F S10000x128 .bf16) (y : S10000x128.Idx) :
    ∃ pc ∈ ([⟨Rect.unit (s := S10000x128) ![0, 0] S10000x128.size inb_S10000x128_S10000x128_0_0, p⟩] : List (View.Piece (Elt F) S10000x128 .bf16)), y ∈ pc.1.set :=
  View.cover_of_tiled [⟨Rect.unit (s := S10000x128) ![0, 0] S10000x128.size inb_S10000x128_S10000x128_0_0, p⟩] S10000x128.size (by rfl) y

theorem whole_cover_sums (p : Vec F S2x128 .f32) (y : S2x128.Idx) :
    ∃ pc ∈ ([⟨Rect.unit (s := S2x128) ![0, 0] S2x128.size inb_S2x128_S2x128_0_0, p⟩] : List (View.Piece (Elt F) S2x128 .f32)), y ∈ pc.1.set :=
  View.cover_of_tiled [⟨Rect.unit (s := S2x128) ![0, 0] S2x128.size inb_S2x128_S2x128_0_0, p⟩] S2x128.size (by rfl) y

theorem zeros2 : (![0, 0] : Fin 2 → ℕ) = fun _ => 0 := by
  funext a; fin_cases a <;> rfl

set_option maxHeartbeats 1000000 in
/-- The body at the first point: both feature matrices stored, the column sums cleared. -/
theorem aug_first (c : Dev nD) (E : Set ℕ) (i : grid0.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S10000x128 .bf16) (harg8 : arg8.IsWhole) (arg9 : Memref sig .tc .vmem S10000x128 .bf16) (harg9 : arg9.IsWhole) (arg10 : Memref sig .tc .vmem S2x128 .f32) (harg10 : arg10.IsWhole)
    (hc1 : k0_cond1 i = 1#1) (hc2 : ¬k0_cond2 i = 1#1)
    (x0 x1 : Vec F S10000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg8 fullShare (k0_pay1 x2 x0) ∗ owns (c : Thread nD τ) arg9 fullShare (k0_pay2 x2 x1) ∗ owns (c : Thread nD τ) arg10 fullShare (k0_pay3 (F := F))) -∗ K ⟨⟩))
      ⊢ wp frame (wpE (defs₀ (F := F)) Variants.none c none) E (cc0__aug_kernel i arg1 harg1 arg2 harg2 arg3 harg3 arg4 harg4 arg5 harg5 arg6 harg6 arg7 harg7 arg8 harg8 arg9 harg9 arg10 harg10) K := by
  simp only [cc0__aug_kernel_eq_skeleton]; unfold cc0__aug_kernel_skel
  unfold owns
  iintro ⟨⟨%f0, %hf0, H0⟩, ⟨%f1, %hf1, H1⟩, ⟨%f2, %hf2, H2⟩, ⟨%d7, %f7, -, H7⟩, ⟨%d8, %f8, -, H8⟩, ⟨%d9, %f9, -, H9⟩, Hk⟩
  subst hf0 hf1 hf2
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H7]
  · iexists _; isplitr
    swap; · iexact H7
    ipureintro
    refine (View.read_writes_eq_canon _ _ _ (whole_cover_feats _)).trans ((View.canon_unit_zero zeros2 _ _).trans ?_)
    exact congr (congrArg k0_pay1 (View.ld_unit_zero zeros2 _ _)) (View.ld_unit_zero zeros2 _ _)
  isplitl [H8]
  · iexists _; isplitr
    swap; · iexact H8
    ipureintro
    refine (View.read_writes_eq_canon _ _ _ (whole_cover_feats _)).trans ((View.canon_unit_zero zeros2 _ _).trans ?_)
    exact congr (congrArg k0_pay2 (View.ld_unit_zero zeros2 _ _)) (View.ld_unit_zero zeros2 _ _)
  iexists _; isplitr
  swap; · iexact H9
  ipureintro
  exact (View.read_writes_eq_canon _ _ _ (whole_cover_sums _)).trans (View.canon_unit_zero zeros2 _ _)

set_option maxHeartbeats 1000000 in
/-- The body at a later point: the column sums go one step on, everything else stays. -/
theorem aug_later (c : Dev nD) (E : Set ℕ) (i : grid0.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S10000x128 .bf16) (harg8 : arg8.IsWhole) (arg9 : Memref sig .tc .vmem S10000x128 .bf16) (harg9 : arg9.IsWhole) (arg10 : Memref sig .tc .vmem S2x128 .f32) (harg10 : arg10.IsWhole)
    (hc1 : ¬k0_cond1 i = 1#1) (hc2 : k0_cond2 i = 1#1)
    (x3 x4 : Vec F S200x10000 .f32) (x5 : Vec F S1x128 .f32) (x6 : Vec F S1x1 .f32) (x7 : Vec F S10000x128 .bf16) (x9 : Vec F S2x128 .f32) (K : PUnit → sProp 𝕄) :
    iprop(owns (c : Thread nD τ) arg4 fullShare x3 ∗ owns (c : Thread nD τ) arg5 fullShare x4 ∗ owns (c : Thread nD τ) arg6 fullShare x5 ∗ owns (c : Thread nD τ) arg7 fullShare x6
        ∗ owns (c : Thread nD τ) arg8 fullShare x7 ∗ owns (c : Thread nD τ) arg10 fullShare x9
        ∗ (iprop(owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare x7 ∗ owns (c : Thread nD τ) arg10 fullShare (sumsStep x7 x3 x4 x5 x6 x9)) -∗ K ⟨⟩))
      ⊢ wp frame (wpE (defs₀ (F := F)) Variants.none c none) E (cc0__aug_kernel i arg1 harg1 arg2 harg2 arg3 harg3 arg4 harg4 arg5 harg5 arg6 harg6 arg7 harg7 arg8 harg8 arg9 harg9 arg10 harg10) K := by
  simp only [cc0__aug_kernel_eq_skeleton]; unfold cc0__aug_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f9, %hf9, H9⟩, Hk⟩
  subst hf3 hf4 hf5 hf6 hf7 hf9
  sl_exec (disch := first | sl_exact hc1 | sl_exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H9
  ipureintro
  refine (View.read_writes_eq_canon _ _ _ (rows_cover _ _)).trans ?_
  unfold aug_later.sl.r aug_later.sl.v38 sumsStep
  have e3 : View.readAt (Elt F) arg4.view (Rect.unit ![0, 0] S200x10000.size inb_S200x10000_S200x10000_0_0).toLoadRect f3 = arg4.view.read (Elt F) f3 :=
    View.ld_unit_zero zeros2 _ _
  have e4 : View.readAt (Elt F) arg5.view (Rect.unit ![0, 0] S200x10000.size inb_S200x10000_S200x10000_0_0).toLoadRect f4 = arg5.view.read (Elt F) f4 :=
    View.ld_unit_zero zeros2 _ _
  have e5 : View.readAt (Elt F) arg6.view (Rect.unit ![0, 0] S1x128.size inb_S1x128_S1x128_0_0).toLoadRect f5 = arg6.view.read (Elt F) f5 :=
    View.ld_unit_zero zeros2 _ _
  have e6 : View.readAt (Elt F) arg7.view (Rect.unit ![0, 0] S1x1.size inb_S1x1_S1x1_0_0).toLoadRect f6 = arg7.view.read (Elt F) f6 :=
    View.ld_unit_zero zeros2 _ _
  have e7 : View.readAt (Elt F) arg8.view (Rect.unit ![0, 0] S10000x128.size inb_S10000x128_S10000x128_0_0).toLoadRect f7 = arg8.view.read (Elt F) f7 :=
    View.ld_unit_zero zeros2 _ _
  rw [e3, e4, e5, e6, e7]
  rfl

end Cert.KernelIdeal.Hand
-- ==== Proof.KernelIdeal.AugData.lean ====
/- The first pallas_call's proof data: what each window's buffer holds after each grid point, and that the body keeps to
   it. The feature matrices are stored at the first point and kept; the column sums accumulate over the later points. -/
module

public import proofs.«01_k».proof.Proof.KernelIdeal.AugBody
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer at `X` is what the body's obligation asks back of a window, when `X` is both what the proof data say the
    body leaves there and what they say it found. -/
theorem leaves_kept {c : Dev nD} (dat : Dat τ (Elt F) Unit ℕ (UR sig nD τ) ℕ cfg0 c) (w : Fin cfg0.W) (t : Fin cfg0.N)
    (X : (cfg0.win w).block.Idx → Elt F (cfg0.win w).elt) (ha : dat.after w t = X) (hb : dat.before w t X = X) :
    owns (c : Thread nD τ) ((cfg0.win w).stage (cfg0.slots t w)) fullShare X ⊢ (dat.leavesExact w t : sProp 𝕄) := by
  unfold Dat.leavesExact
  split
  · split
    · iintro H; iexists X; rw [hb]; iexact H
    · rw [ha]
  · rw [ha]

/-- The same of a window the body stores into at the point. -/
theorem leaves_live {c : Dev nD} (dat : Dat τ (Elt F) Unit ℕ (UR sig nD τ) ℕ cfg0 c) (w : Fin cfg0.W) (t : Fin cfg0.N)
    (X : (cfg0.win w).block.Idx → Elt F (cfg0.win w).elt) (ha : dat.after w t = X) (hi : cfg0.idle w (cfg0.grid.coords t) = false) :
    owns (c : Thread nD τ) ((cfg0.win w).stage (cfg0.slots t w)) fullShare X ⊢ (dat.leavesExact w t : sProp 𝕄) := by
  unfold Dat.leavesExact
  rw [hi, ha]

/-! ## The schedule of the first call -/

/-- The first point is the one the first condition picks; the second picks every other point. -/
theorem first_iff : ∀ t : Fin cfg0.N, k0_cond1 (grid0.coords t) = 1#1 ↔ t.val = 0 :=
  (by decide +kernel : ∀ t : Fin grid0.N, k0_cond1 (grid0.coords t) = 1#1 ↔ t.val = 0)
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- The first point stores into every output; every point stores into the column sums. -/
theorem idle7_first (t : Fin cfg0.N) (h : t.val = 0) : cfg0.idle 7 (cfg0.grid.coords t) = false := by
  have h1 := (first_iff t).mpr h
  show (!(k0_cond1 (grid0.coords t) == 1#1)) = false
  rw [h1]; rfl
theorem idle8_first (t : Fin cfg0.N) (h : t.val = 0) : cfg0.idle 8 (cfg0.grid.coords t) = false := by
  have h1 := (first_iff t).mpr h
  show (!(k0_cond1 (grid0.coords t) == 1#1)) = false
  rw [h1]; rfl
theorem idle9_never (t : Fin cfg0.N) : cfg0.idle 9 (cfg0.grid.coords t) = false := by
  show (!(k0_cond1 (grid0.coords t) == 1#1) && !(k0_cond2 (grid0.coords t) == 1#1)) = false
  by_cases h : t.val = 0
  · rw [(first_iff t).mpr h]; rfl
  · rw [(later_iff t).mpr h, Bool.and_comm]; rfl

/-- An output that the first point stores into and only the last point writes back is never fresh after the first. -/
theorem not_fresh (w : Fin cfg0.W) (hidle : ∀ t : Fin cfg0.N, t.val = 0 → cfg0.idle w (cfg0.grid.coords t) = false)
    (hflush : ∀ t : Fin cfg0.N, (cfg0.win w).flush t = true ↔ t.val % 51 = 50) :
    ∀ n : ℕ, n + 1 < 51 → cfg0.fresh w (n + 1) = false := by
  have hf : ∀ t : Fin cfg0.N, t.val < 50 → (cfg0.win w).flush t = false := fun t ht => by
    rw [← Bool.not_eq_true, hflush]; omega
  have hN : cfg0.N = 51 := N_0
  intro n
  induction n with
  | zero =>
    intro _
    rw [Cfg.fresh_succ cfg0 w 0 (by omega), hf ⟨0, by omega⟩ (by simp), hidle ⟨0, by omega⟩ rfl]; rfl
  | succ n ih =>
    intro hn
    rw [Cfg.fresh_succ cfg0 w (n + 1) (by omega), hf ⟨n + 1, by omega⟩ (by show n + 1 < 50; omega), ih (by omega), Bool.and_false]; rfl

section Entry
-- the buffer contents the region is entered from
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem zero_lt0 : 0 < cfg0.N := by rw [show cfg0.N = 51 from N_0]; omega

/-- The two feature matrices, as the first point stores them. -/
def feats1 (c : Dev nD) : Vec F S10000x128 .bf16 := k0_pay1 (blk0 V c 2 ⟨0, zero_lt0⟩) (blk0 V c 0 ⟨0, zero_lt0⟩)
def feats2 (c : Dev nD) : Vec F S10000x128 .bf16 := k0_pay2 (blk0 V c 2 ⟨0, zero_lt0⟩) (blk0 V c 1 ⟨0, zero_lt0⟩)

/-- The column sums after position `n`: cleared at 0, one step per later point. -/
def sumsAt (c : Dev nD) : (n : ℕ) → n < cfg0.N → Vec F S2x128 .f32
  | 0, _ => k0_pay3
  | n + 1, hn => sumsStep (feats1 V c) (blk0 V c 3 ⟨n + 1, hn⟩) (blk0 V c 4 ⟨n + 1, hn⟩) (blk0 V c 5 ⟨n + 1, hn⟩) (blk0 V c 6 ⟨n + 1, hn⟩)
      (sumsAt c n (Nat.lt_of_succ_lt hn))

/-- The call's proof data on core `c`: an input's buffer keeps its block, the feature matrices stay as the first point
    stores them, the column sums follow `sumsAt`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => feats1 V c
    | ⟨8, _⟩ => feats2 V c
    | ⟨9, _⟩ => sumsAt V c t.val t.isLt
  Φ _ := Pipeline.ΦA spec0 c
  q _ := fullShare
  owed _ := 0

/-- The arrays are the region-entry contents. -/
theorem dat0_arr (c : Dev nD) (w : Fin cfg0.W) : (dat0 V c).A w = V c (Pipeline.arrRef spec0 w) := by
  dsimp only [dat0]

/-- What the body leaves in an input's buffer: its block. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]

/-- What the body finds there: the block again, fetched at the point or not. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [dat0_arr]; try rfl) t d).trans
    (by unfold Dat.fetched Dat.blockOf blk0; rw [dat0_arr]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [dat0_arr]; try rfl) t d).trans
    (by unfold Dat.fetched Dat.blockOf blk0; rw [dat0_arr]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [dat0_arr]; try rfl) t d).trans
    (by unfold Dat.fetched Dat.blockOf blk0; rw [dat0_arr]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [dat0_arr]; try rfl) t d).trans
    (by unfold Dat.fetched Dat.blockOf blk0; rw [dat0_arr]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [dat0_arr]; try rfl) t d).trans
    (by unfold Dat.fetched Dat.blockOf blk0; rw [dat0_arr]; try rfl)
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [dat0_arr]; try rfl) t d).trans
    (by unfold Dat.fetched Dat.blockOf blk0; rw [dat0_arr]; try rfl)
theorem before0_6 (c : Dev nD) (t : Fin cfg0.N) (d) : (dat0 V c).before 6 t d = blk0 V c 6 t :=
  ((dat0 V c).before_in_eq_fetched 6 rfl (fun _ => rfl) (fun _ _ _ => rfl) (fun t => by rw [after0_6]; unfold Dat.blockOf blk0; rw [dat0_arr]; try rfl) t d).trans
    (by unfold Dat.fetched Dat.blockOf blk0; rw [dat0_arr]; try rfl)

theorem after0_7 (c : Dev nD) (t : Fin cfg0.N) : (dat0 V c).after 7 t = feats1 V c := by dsimp only [dat0]
theorem after0_8 (c : Dev nD) (t : Fin cfg0.N) : (dat0 V c).after 8 t = feats2 V c := by dsimp only [dat0]
theorem after0_9 (c : Dev nD) (t : Fin cfg0.N) : (dat0 V c).after 9 t = sumsAt V c t.val t.isLt := by dsimp only [dat0]

/-- What a later point finds in the outputs' buffers: what the point before left. -/
theorem before0_7 (c : Dev nD) (t : Fin cfg0.N) (h : t.val ≠ 0) (d) : (dat0 V c).before 7 t d = feats1 V c := by
  obtain ⟨n, hn⟩ : ∃ n, t.val = n + 1 := ⟨t.val - 1, by omega⟩
  have hN : t.val < 51 := lt_of_lt_of_eq t.isLt N_0
  have hf : cfg0.fresh 7 t.val = false := by rw [hn]; exact not_fresh 7 idle7_first flush0_7 n (by omega)
  rw [Dat.before_out_traj _ 7 rfl (fun _ _ => rfl) (fun _ _ _ _ => by rw [after0_7, after0_7]) t.val t rfl d, hf,
    if_neg Bool.false_ne_true, after0_7]
theorem before0_8 (c : Dev nD) (t : Fin cfg0.N) (h : t.val ≠ 0) (d) : (dat0 V c).before 8 t d = feats2 V c := by
  obtain ⟨n, hn⟩ : ∃ n, t.val = n + 1 := ⟨t.val - 1, by omega⟩
  have hN : t.val < 51 := lt_of_lt_of_eq t.isLt N_0
  have hf : cfg0.fresh 8 t.val = false := by rw [hn]; exact not_fresh 8 idle8_first flush0_8 n (by omega)
  rw [Dat.before_out_traj _ 8 rfl (fun _ _ => rfl) (fun _ _ _ _ => by rw [after0_8, after0_8]) t.val t rfl d, hf,
    if_neg Bool.false_ne_true, after0_8]
theorem before0_9 (c : Dev nD) (n : ℕ) (hn : n + 1 < cfg0.N) (d) :
    (dat0 V c).before 9 ⟨n + 1, hn⟩ d = sumsAt V c n (Nat.lt_of_succ_lt hn) := by
  have hN : n + 1 < 51 := lt_of_lt_of_eq hn N_0
  rw [Dat.before_out_traj _ 9 rfl (fun _ _ => rfl) (fun t _ hi _ => absurd (hi.symm.trans (idle9_never t)) (Bool.false_ne_true ∘ Eq.symm)) (n + 1) ⟨n + 1, hn⟩ rfl d,
    not_fresh 9 (fun t _ => idle9_never t) flush0_9 n hN, if_neg Bool.false_ne_true, after0_9]
  rfl

/-! ## The body's obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it gives back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 1000000 in
/-- The body at any point, by its case. -/
theorem body0_point (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl]
  simp only [before0_0, before0_1, before0_2, before0_3, before0_4, before0_5, before0_6]
  rcases t with ⟨_ | n, hn⟩
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (aug_first c Set.univ (grid0.coords ⟨0, hn⟩) _ _ _ _ _ _ _ _ _ _ _ _ _ _ _ _ _ _ _ _ ((first_iff ⟨0, hn⟩).mpr rfl) (fun h => (later_iff ⟨0, hn⟩).mp h rfl)
      (blk0 V c 0 ⟨0, hn⟩) (blk0 V c 1 ⟨0, hn⟩) (blk0 V c 2 ⟨0, hn⟩) _)
    isplitl [H0]; · iexact H0
    isplitl [H1]; · iexact H1
    isplitl [H2]; · iexact H2
    isplitl [H7]; · iexists _; iexact H7
    isplitl [H8]; · iexists _; iexact H8
    isplitl [H9]; · iexists _; iexact H9
    iintro ⟨H0, H1, H2, H7, H8, H9⟩
    isplitl [HΦ]; · iexact HΦ
    isplitl [Ho]; · iexact Ho
    isplitl [H0]
    · iapply (leaves_live (dat0 V c) 0 ⟨0, hn⟩ (blk0 V c 0 ⟨0, hn⟩) (after0_0 V c _) rfl); iexact H0
    isplitl [H1]
    · iapply (leaves_live (dat0 V c) 1 ⟨0, hn⟩ (blk0 V c 1 ⟨0, hn⟩) (after0_1 V c _) rfl); iexact H1
    isplitl [H2]
    · iapply (leaves_live (dat0 V c) 2 ⟨0, hn⟩ (blk0 V c 2 ⟨0, hn⟩) (after0_2 V c _) rfl); iexact H2
    isplitl [H3]
    · iapply (leaves_live (dat0 V c) 3 ⟨0, hn⟩ (blk0 V c 3 ⟨0, hn⟩) (after0_3 V c _) rfl); iexact H3
    isplitl [H4]
    · iapply (leaves_live (dat0 V c) 4 ⟨0, hn⟩ (blk0 V c 4 ⟨0, hn⟩) (after0_4 V c _) rfl); iexact H4
    isplitl [H5]
    · iapply (leaves_live (dat0 V c) 5 ⟨0, hn⟩ (blk0 V c 5 ⟨0, hn⟩) (after0_5 V c _) rfl); iexact H5
    isplitl [H6]
    · iapply (leaves_live (dat0 V c) 6 ⟨0, hn⟩ (blk0 V c 6 ⟨0, hn⟩) (after0_6 V c _) rfl); iexact H6
    isplitl [H7]
    · iapply (leaves_live (dat0 V c) 7 ⟨0, hn⟩ (feats1 V c) (after0_7 V c _) (idle7_first _ rfl)); iexact H7
    isplitl [H8]
    · iapply (leaves_live (dat0 V c) 8 ⟨0, hn⟩ (feats2 V c) (after0_8 V c _) (idle8_first _ rfl)); iexact H8
    iapply (leaves_live (dat0 V c) 9 ⟨0, hn⟩ (k0_pay3 (F := F)) (after0_9 V c _) (idle9_never _)); iexact H9
  · simp only [before0_7 V c ⟨n + 1, hn⟩ (Nat.succ_ne_zero n), before0_8 V c ⟨n + 1, hn⟩ (Nat.succ_ne_zero n), before0_9]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (aug_later c Set.univ (grid0.coords ⟨n + 1, hn⟩) _ _ _ _ _ _ _ _ _ _ _ _ _ _ _ _ _ _ _ _ (fun h => Nat.succ_ne_zero n ((first_iff ⟨n + 1, hn⟩).mp h)) ((later_iff ⟨n + 1, hn⟩).mpr (Nat.succ_ne_zero n))
      (blk0 V c 3 ⟨n + 1, hn⟩) (blk0 V c 4 ⟨n + 1, hn⟩) (blk0 V c 5 ⟨n + 1, hn⟩) (blk0 V c 6 ⟨n + 1, hn⟩) (feats1 V c) (sumsAt V c n (Nat.lt_of_succ_lt hn)) _)
    isplitl [H3]; · iexact H3
    isplitl [H4]; · iexact H4
    isplitl [H5]; · iexact H5
    isplitl [H6]; · iexact H6
    isplitl [H7]; · iexact H7
    isplitl [H9]; · iexact H9
    iintro ⟨H3, H4, H5, H6, H7, H9⟩
    isplitl [HΦ]; · iexact HΦ
    isplitl [Ho]; · iexact Ho
    isplitl [H0]
    · iapply (leaves_live (dat0 V c) 0 ⟨n + 1, hn⟩ (blk0 V c 0 ⟨n + 1, hn⟩) (after0_0 V c _) rfl); iexact H0
    isplitl [H1]
    · iapply (leaves_live (dat0 V c) 1 ⟨n + 1, hn⟩ (blk0 V c 1 ⟨n + 1, hn⟩) (after0_1 V c _) rfl); iexact H1
    isplitl [H2]
    · iapply (leaves_live (dat0 V c) 2 ⟨n + 1, hn⟩ (blk0 V c 2 ⟨n + 1, hn⟩) (after0_2 V c _) rfl); iexact H2
    isplitl [H3]
    · iapply (leaves_live (dat0 V c) 3 ⟨n + 1, hn⟩ (blk0 V c 3 ⟨n + 1, hn⟩) (after0_3 V c _) rfl); iexact H3
    isplitl [H4]
    · iapply (leaves_live (dat0 V c) 4 ⟨n + 1, hn⟩ (blk0 V c 4 ⟨n + 1, hn⟩) (after0_4 V c _) rfl); iexact H4
    isplitl [H5]
    · iapply (leaves_live (dat0 V c) 5 ⟨n + 1, hn⟩ (blk0 V c 5 ⟨n + 1, hn⟩) (after0_5 V c _) rfl); iexact H5
    isplitl [H6]
    · iapply (leaves_live (dat0 V c) 6 ⟨n + 1, hn⟩ (blk0 V c 6 ⟨n + 1, hn⟩) (after0_6 V c _) rfl); iexact H6
    isplitl [H7]
    · iapply (leaves_kept (dat0 V c) 7 ⟨n + 1, hn⟩ (feats1 V c) (after0_7 V c _) (before0_7 V c _ (Nat.succ_ne_zero n) _)); iexact H7
    isplitl [H8]
    · iapply (leaves_kept (dat0 V c) 8 ⟨n + 1, hn⟩ (feats2 V c) (after0_8 V c _) (before0_8 V c _ (Nat.succ_ne_zero n) _)); iexact H8
    iapply (leaves_live (dat0 V c) 9 ⟨n + 1, hn⟩ (sumsAt V c (n + 1) hn) (after0_9 V c _) (idle9_never _)); iexact H9

theorem body0_row (t : Fin cfg0.N) : defs₀ (F := F) .tc cfg0.body (cfg0.bodyArgs t (cfg0.slots t)) = bodyAt0 t := by
  unfold defs₀; rw [Defs.onTc_tc]

/-- The first call's body obligation. -/
theorem body0 (c : Dev nD) : BodyObligation (dat0 (F := F) V c) (defs₀ (F := F)) Variants.none () Set.univ := fun t => by
  rw [bigSep_W0, bigSep_W0, body0_row]
  exact triple_restated (body0_point V c t) rfl .rfl fun _ => .rfl

end Entry

end Cert.KernelIdeal.Hand
-- ==== Proof.KernelIdeal.AdjBody.lean ====
/- The second pallas_call's body, run at one grid point: it reads a block of 400 adjacency rows and stores the two
   score columns of that block. -/
module

public import proofs.«01_k».proof.Proof.KernelIdeal.AugBody
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two columns of a block of scores. -/
abbrev col0 : Rect S400x2 := Rect.unit (s := S400x2) ![0, 0] S400x1.size inb_S400x2_S400x1_0_0
abbrev col1 : Rect S400x2 := Rect.unit (s := S400x2) ![0, 1] S400x1.size inb_S400x2_S400x1_0_1

/-- The block of scores a point stores: column 0 from the first sequence's features, column 1 from the second's. -/
def scores (x0 : Vec F S2x128 .f32) (x1 : Vec F S400x10000 .f32) (x2 x3 : Vec F S10000x128 .bf16) (x4 : Vec F S1x128 .f32)
    (x5 : Vec F S1x1 .f32) (x6 : Vec F S128x128 .f32) (x7 : Vec F S1x1 .f32) : Vec F S400x2 .f32 :=
  View.canon [⟨col1, k1_pay4 (k1_pay9 x1 x5 x4 x3) (k1_pay10 (View.ld x0 row0) (View.ld x0 row1)) x6 x7⟩,
    ⟨col0, k1_pay3 (k1_pay8 x1 x5 x4 x2) (k1_pay10 (View.ld x0 row0) (View.ld x0 row1)) x6 x7⟩]

/-- The two columns cover the block. -/
theorem cols_cover (p q : Vec F S400x1 .f32) (y : S400x2.Idx) :
    ∃ pc ∈ ([⟨col1, p⟩, ⟨col0, q⟩] : List (View.Piece (Elt F) S400x2 .f32)), y ∈ pc.1.set :=
  View.cover_of_tiled [⟨col1, p⟩, ⟨col0, q⟩] S400x1.size (by rfl) y

set_option maxHeartbeats 1000000 in
/-- The body at any point: the inputs stay, the output's buffer holds the block of scores. -/
theorem adj_point (c : Dev nD) (E : Set ℕ) (i : grid1.Coords) (arg1 : Memref sig .tc .vmem S2x128 .f32) (harg1 : arg1.IsWhole) (arg2 : Memref sig .tc .vmem S400x10000 .f32) (harg2 : arg2.IsWhole) (arg3 : Memref sig .tc .vmem S10000x128 .bf16) (harg3 : arg3.IsWhole) (arg4 : Memref sig .tc .vmem S10000x128 .bf16) (harg4 : arg4.IsWhole) (arg5 : Memref sig .tc .vmem S1x128 .f32) (harg5 : arg5.IsWhole) (arg6 : Memref sig .tc .vmem S1x1 .f32) (harg6 : arg6.IsWhole) (arg7 : Memref sig .tc .vmem S128x128 .f32) (harg7 : arg7.IsWhole) (arg8 : Memref sig .tc .vmem S1x1 .f32) (harg8 : arg8.IsWhole) (arg9 : Memref sig .tc .vmem S400x2 .f32) (harg9 : arg9.IsWhole)
    (x0 : Vec F S2x128 .f32) (x1 : Vec F S400x10000 .f32) (x2 x3 : Vec F S10000x128 .bf16) (x4 : Vec F S1x128 .f32) (x5 : Vec F S1x1 .f32) (x6 : Vec F S128x128 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (scores x0 x1 x2 x3 x4 x5 x6 x7)) -∗ K ⟨⟩))
      ⊢ wp frame (wpE (defs₀ (F := F)) Variants.none c none) E (cc1__adj_kernel i arg1 harg1 arg2 harg2 arg3 harg3 arg4 harg4 arg5 harg5 arg6 harg6 arg7 harg7 arg8 harg8 arg9 harg9) K := by
  simp only [cc1__adj_kernel_eq_skeleton]; unfold cc1__adj_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (cols_cover _ _)).trans ?_
  have e1 : View.readAt (Elt F) arg2.view (Rect.unit ![0, 0] S400x10000.size inb_S400x10000_S400x10000_0_0).toLoadRect f1 = arg2.view.read (Elt F) f1 :=
    View.ld_unit_zero zeros2 _ _
  have e2 : View.readAt (Elt F) arg3.view (Rect.unit ![0, 0] S10000x128.size inb_S10000x128_S10000x128_0_0).toLoadRect f2 = arg3.view.read (Elt F) f2 :=
    View.ld_unit_zero zeros2 _ _
  have e3 : View.readAt (Elt F) arg4.view (Rect.unit ![0, 0] S10000x128.size inb_S10000x128_S10000x128_0_0).toLoadRect f3 = arg4.view.read (Elt F) f3 :=
    View.ld_unit_zero zeros2 _ _
  have e4 : View.readAt (Elt F) arg5.view (Rect.unit ![0, 0] S1x128.size inb_S1x128_S1x128_0_0).toLoadRect f4 = arg5.view.read (Elt F) f4 :=
    View.ld_unit_zero zeros2 _ _
  have e5 : View.readAt (Elt F) arg6.view (Rect.unit ![0, 0] S1x1.size inb_S1x1_S1x1_0_0).toLoadRect f5 = arg6.view.read (Elt F) f5 :=
    View.ld_unit_zero zeros2 _ _
  have e6 : View.readAt (Elt F) arg7.view (Rect.unit ![0, 0] ![128, 128] inb_S128x128_S128x128_0_0).toLoadRect f6 = arg7.view.read (Elt F) f6 :=
    View.ld_unit_zero zeros2 _ _
  have e7 : View.readAt (Elt F) arg8.view (Rect.unit ![0, 0] ![1, 1] inb_S1x1_S1x1_0_0).toLoadRect f7 = arg8.view.read (Elt F) f7 :=
    View.ld_unit_zero zeros2 _ _
  unfold scores adj_point.sl.r adj_point.sl.r_1 adj_point.sl.r_2
  rw [e1, e2, e3, e4, e5, e6, e7]
  rfl

end Cert.KernelIdeal.Hand
-- ==== Proof.KernelIdeal.AdjData.lean ====
/- The second pallas_call's proof data: each grid point leaves its block of scores in the output's buffer. -/
module

public import proofs.«01_k».proof.Proof.KernelIdeal.AdjBody
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the buffer contents the region is entered from
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of scores point `t` stores. -/
def scoresAt (c : Dev nD) (t : Fin cfg1.N) : Vec F S400x2 .f32 :=
  scores (blk1 V c 0 t) (blk1 V c 1 t) (blk1 V c 2 t) (blk1 V c 3 t) (blk1 V c 4 t) (blk1 V c 5 t) (blk1 V c 6 t) (blk1 V c 7 t)

/-- The call's proof data on core `c`: an input's buffer keeps its block, the output's holds the block of scores. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => scoresAt V c t
  Φ _ := Pipeline.ΦA spec1 c
  q _ := fullShare
  owed _ := 0

/-- The arrays are the region-entry contents. -/
theorem dat1_arr (c : Dev nD) (w : Fin cfg1.W) : (dat1 V c).A w = V c (Pipeline.arrRef spec1 w) := by
  dsimp only [dat1]

/-- What the body leaves in an input's buffer: its block. -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]

/-- What the body finds there: the block again, fetched at the point or not. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [dat1_arr]; try rfl) t d).trans
    (by unfold Dat.fetched Dat.blockOf blk1; rw [dat1_arr]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [dat1_arr]; try rfl) t d).trans
    (by unfold Dat.fetched Dat.blockOf blk1; rw [dat1_arr]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [dat1_arr]; try rfl) t d).trans
    (by unfold Dat.fetched Dat.blockOf blk1; rw [dat1_arr]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [dat1_arr]; try rfl) t d).trans
    (by unfold Dat.fetched Dat.blockOf blk1; rw [dat1_arr]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [dat1_arr]; try rfl) t d).trans
    (by unfold Dat.fetched Dat.blockOf blk1; rw [dat1_arr]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [dat1_arr]; try rfl) t d).trans
    (by unfold Dat.fetched Dat.blockOf blk1; rw [dat1_arr]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [dat1_arr]; try rfl) t d).trans
    (by unfold Dat.fetched Dat.blockOf blk1; rw [dat1_arr]; try rfl)
theorem before1_7 (c : Dev nD) (t : Fin cfg1.N) (d) : (dat1 V c).before 7 t d = blk1 V c 7 t :=
  ((dat1 V c).before_in_eq_fetched 7 rfl (fun _ => rfl) (fun _ _ _ => rfl) (fun t => by rw [after1_7]; unfold Dat.blockOf blk1; rw [dat1_arr]; try rfl) t d).trans
    (by unfold Dat.fetched Dat.blockOf blk1; rw [dat1_arr]; try rfl)

theorem after1_8 (c : Dev nD) (t : Fin cfg1.N) : (dat1 V c).after 8 t = scoresAt V c t := by dsimp only [dat1]

/-! ## The body's obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point. -/
theorem body1_point (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (adj_point c Set.univ (grid1.coords t) _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body1_row (t : Fin cfg1.N) : defs₀ (F := F) .tc cfg1.body (cfg1.bodyArgs t (cfg1.slots t)) = bodyAt1 t := by
  unfold defs₀; rw [Defs.onTc_tc]

/-- The second call's body obligation. -/
theorem body1 (c : Dev nD) : BodyObligation (dat1 (F := F) V c) (defs₀ (F := F)) Variants.none () Set.univ := fun t => by
  rw [bigSep_W1, bigSep_W1, body1_row]
  exact triple_restated (body1_point V c t) rfl .rfl fun _ => .rfl

end Entry

end Cert.KernelIdeal.Hand
-- ==== Proof.KernelIdeal.Run.lean ====
/- The whole program's run: the buffers' contents at each boundary between the host's operations and the two
   pallas_calls, and the launch, from which every final state has every buffer at the last boundary's contents. -/
module

public import proofs.«01_k».proof.Proof.KernelIdeal.AugData
public import proofs.«01_k».proof.Proof.KernelIdeal.AdjData
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's arguments. -/
abbrev argRefs : List (Ref sig .tc) := [main_arg0, main_arg1, main_arg2, main_arg3, main_arg4, main_arg5, main_arg6, main_arg7, main_arg8, main_arg9]

/-! ## The host's operations: what each stretch writes -/

abbrev written0 : List (Ref sig .tc) := [main_call0_v0, main_call0_v1, main_call0_v2, main_call0_v3, main_call0_v4]
theorem fresh0 : (hostOps0 : List (HloOp τ sig (Elt F))).Forall fun op => op.fresh = ∅ := by
  simp only [List.Forall]; repeat' constructor
theorem writes0 : (hostOps0 : List (HloOp τ sig (Elt F))).Forall fun op => op.writes ⊆ (written0.map (Proc.devRef (τ := τ) .tc)).toFinset :=
  StableHlo.forall_writes_sub_of_map rfl
theorem written0_args : ∀ a ∈ argRefs, a ∉ written0 := ListAll.forall_mem_of_all_decide (by decide +kernel)

abbrev written1 : List (Ref sig .tc) := [main_call0_v6, main_call0_v7]
theorem fresh1 : (hostOps1 : List (HloOp τ sig (Elt F))).Forall fun op => op.fresh = ∅ := by
  simp only [List.Forall]; repeat' constructor
theorem writes1 : (hostOps1 : List (HloOp τ sig (Elt F))).Forall fun op => op.writes ⊆ (written1.map (Proc.devRef (τ := τ) .tc)).toFinset :=
  StableHlo.forall_writes_sub_of_map rfl
theorem written1_args : ∀ a ∈ argRefs, a ∉ written1 := ListAll.forall_mem_of_all_decide (by decide +kernel)

abbrev written2 : List (Ref sig .tc) := [main_call0_v9, main_call0_v10, main_call0_v11, main_call0_v12, main_call0_v13, main_v0]
theorem fresh2 : (hostOps2 : List (HloOp τ sig (Elt F))).Forall fun op => op.fresh = ∅ := by
  simp only [List.Forall]; repeat' constructor
theorem writes2 : (hostOps2 : List (HloOp τ sig (Elt F))).Forall fun op => op.writes ⊆ (written2.map (Proc.devRef (τ := τ) .tc)).toFinset :=
  StableHlo.forall_writes_sub_of_map rfl
theorem written2_args : ∀ a ∈ argRefs, a ∉ written2 := ListAll.forall_mem_of_all_decide (by decide +kernel)

/-! ## The contents at each boundary -/

/-- At launch. -/
abbrev W0 : Dev nD → Valuation τ sig (Elt F) := fun c b => m ((c : Dev nD), b)

/-- After the host's stretch 0. -/
abbrev W1 : Dev nD → Valuation τ sig (Elt F) := fun c => StableHlo.after hostOps0 (W0 m c)
theorem W1_of (c : Dev nD) (r : Ref sig .tc) (h : r ∉ written0) : W1 m c (Proc.devRef .tc r) = W0 m c (Proc.devRef .tc r) :=
  StableHlo.after_of_writes_sub hostOps0 _ writes0 h
abbrev V1 : (c : Dev nD) → (b : Ref sig .tc) → Buf (Elt F) ((c : Thread nD τ).loc b) := fun c b => W1 m c b

/-- After pallas_call 0: its arrays as the pipeline leaves them, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- What is none of its output arrays is as before: an input's array is never written back. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (dat0_arr (V1 m) c w))
  · exact W2_of_ne m c r fun w e => hw ⟨w, e⟩
theorem inputs0 : ∀ a ∈ argRefs, ∀ w : Fin cfg0.W, Pipeline.arrRef spec0 w = a → (cfg0.win w).isOut = false :=
  ListAll.forall_mem_of_all_decide (by decide +kernel)
abbrev V2 : (c : Dev nD) → (b : Ref sig .tc) → Buf (Elt F) ((c : Thread nD τ).loc b) := fun c b => W2 m c b
theorem exit0 (c : Dev nD) (w : Fin cfg0.W) : (dat0 (V1 m) c).arrAt w cfg0.N = V2 m c (Pipeline.arrRef spec0 w) :=
  (W2_arr m c w).symm
theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host's stretch 1. -/
abbrev W3 : Dev nD → Valuation τ sig (Elt F) := fun c => StableHlo.after hostOps1 (W2 m c)
theorem W3_of (c : Dev nD) (r : Ref sig .tc) (h : r ∉ written1) : W3 m c (Proc.devRef .tc r) = W2 m c (Proc.devRef .tc r) :=
  StableHlo.after_of_writes_sub hostOps1 _ writes1 h
abbrev V3 : (c : Dev nD) → (b : Ref sig .tc) → Buf (Elt F) ((c : Thread nD τ).loc b) := fun c b => W3 m c b

/-- After pallas_call 1: its arrays as the pipeline leaves them, every other buffer as before. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- What is none of its output arrays is as before: an input's array is never written back. -/
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (V3 m) c).arrAt_in w (h w rfl) _).trans (dat1_arr (V3 m) c w))
  · exact W4_of_ne m c r fun w e => hw ⟨w, e⟩
theorem inputs1 : ∀ a ∈ argRefs, ∀ w : Fin cfg1.W, Pipeline.arrRef spec1 w = a → (cfg1.win w).isOut = false :=
  ListAll.forall_mem_of_all_decide (by decide +kernel)
abbrev V4 : (c : Dev nD) → (b : Ref sig .tc) → Buf (Elt F) ((c : Thread nD τ).loc b) := fun c b => W4 m c b
theorem exit1 (c : Dev nD) (w : Fin cfg1.W) : (dat1 (V3 m) c).arrAt w cfg1.N = V4 m c (Pipeline.arrRef spec1 w) :=
  (W4_arr m c w).symm
theorem rest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host's stretch 2. -/
abbrev W5 : Dev nD → Valuation τ sig (Elt F) := fun c => StableHlo.after hostOps2 (W4 m c)
theorem W5_of (c : Dev nD) (r : Ref sig .tc) (h : r ∉ written2) : W5 m c (Proc.devRef .tc r) = W4 m c (Proc.devRef .tc r) :=
  StableHlo.after_of_writes_sub hostOps2 _ writes2 h
abbrev V5 : (c : Dev nD) → (b : Ref sig .tc) → Buf (Elt F) ((c : Thread nD τ).loc b) := fun c b => W5 m c b

/-- An argument's buffer is the same at every boundary. -/
theorem W1_args (c : Dev nD) (a : Ref sig .tc) (ha : a ∈ argRefs) : W1 m c (Proc.devRef .tc a) = m ((c : Thread nD τ).loc a) :=
  W1_of m c a (written0_args a ha)
theorem W2_args (c : Dev nD) (a : Ref sig .tc) (ha : a ∈ argRefs) : W2 m c (Proc.devRef .tc a) = m ((c : Thread nD τ).loc a) :=
  (W2_of m c a (inputs0 a ha)).trans (W1_args m c a ha)
theorem W3_args (c : Dev nD) (a : Ref sig .tc) (ha : a ∈ argRefs) : W3 m c (Proc.devRef .tc a) = m ((c : Thread nD τ).loc a) :=
  (W3_of m c a (written1_args a ha)).trans (W2_args m c a ha)
theorem W4_args (c : Dev nD) (a : Ref sig .tc) (ha : a ∈ argRefs) : W4 m c (Proc.devRef .tc a) = m ((c : Thread nD τ).loc a) :=
  (W4_of m c a (inputs1 a ha)).trans (W3_args m c a ha)
theorem W5_args (c : Dev nD) (a : Ref sig .tc) (ha : a ∈ argRefs) : W5 m c (Proc.devRef .tc a) = m ((c : Thread nD τ).loc a) :=
  (W5_of m c a (written2_args a ha)).trans (W4_args m c a ha)

/-! ## The program's segments -/

/-- No table is prefetched. -/
abbrev adm : (p : Fin 2) → (pcfgs (F := F) p).Adm := fun p => (cfgs p).toPCfg_adm
/-- Each call's proof data, at the contents it is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides along beside the buffers: the generator register at some state, and nothing owed. -/
abbrev R (c : Dev nD) : sProp 𝕄 := iprop((∃ r, prngReg c r) ∗ ∃ W, owes (c : Thread nD τ) (0 : CellTallies nD τ sig Unit) W)
/-- A stretch of the host's operations, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every buffer at the last boundary's contents. -/
abbrev Tₙ (c : Dev nD) : sProp 𝕄 := iprop(StableHlo.held (c : Thread nD τ) (Pipeline.ucRefs τ sig) (W5 m c) ∗ ∃ r, prngReg c r)

set_option backward.isDefEq.respectTransparency.types false in
/-- pallas_call 0: its arrays are split out of the buffers at entry and put back at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (dat0_arr (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1: its arrays are split out of the buffers at entry and put back at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (dat1_arr (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program is the run of its five segments. -/
abbrev segs : List (Pipeline.Seg (pcfgs (F := F)) adm (pdats m) () defs₀ 𝒱₀ L lv) :=
  [ .host (hseg hostOps0 hostOps0_sub fresh0 (W0 m)),
    .region (reg0 m),
    .host (hseg hostOps1 hostOps1_sub fresh1 (W2 m)),
    .region (reg1 m),
    .host (hseg hostOps2 hostOps2_sub fresh2 (W4 m)) ]
theorem main_run (c : Dev nD) : main (F := F) c = Pipeline.Seg.run (segs m) := (main_chain c).trans (by chain_rfl)

theorem no_unscoped : ∀ sm : SemLoc sig, sm.isScoped .tc = true := by decide

set_option backward.isDefEq.respectTransparency.types false in
/-- Every execution ends, nothing faulting, with every buffer at the last boundary's contents and every counter at
    zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨fun c => h c, funext fun g => hz g (.inr (no_unscoped g.2))⟩)

/-- Every execution ends, nothing faulting, with every argument as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c =>
    have arg (a : Ref sig .tc) (hs : ¬ (Proc.devRef .tc a : DevRef τ sig).isScoped) (ha : a ∈ argRefs) :
        r.2.mem ((c.tc : Thread nD τ).loc a) = m ((c.tc : Thread nD τ).loc a) := (h.1 c _ (mem_uc a hs)).trans (W5_args m c a ha)
    ⟨arg main_arg0 (by decide) (by decide), arg main_arg1 (by decide) (by decide), arg main_arg2 (by decide) (by decide), arg main_arg3 (by decide) (by decide), arg main_arg4 (by decide) (by decide), arg main_arg5 (by decide) (by decide), arg main_arg6 (by decide) (by decide), arg main_arg7 (by decide) (by decide), arg main_arg8 (by decide) (by decide), arg main_arg9 (by decide) (by decide)⟩, h.2⟩) (run m ρ)

end Cert.KernelIdeal.Hand
-- ==== Proof.Spec.lean ====
/- The scores as plain formulas over the extended reals, one for each way of grouping the last bilinear form, and the
   proof that the two groupings agree where what is multiplied out is real. -/
module

public import Idealize.ShloMosaic.PureOps.Ideal
public import Idealize.ShloMosaic.Lib.Pointwise

@[expose] public section

noncomputable section

namespace Cert.Spec

open Idealize.ShloMosaic

/-- The rectifier with a slope: a number that is not negative stays, any other is multiplied by the slope. -/
def prelu (a x : EReal) : EReal := if 0 ≤ x then x else a * x

/-- The features times the weights. -/
def proj {N D E : Nat} (s : Fin N → Fin D → EReal) (w : Fin D → Fin E → EReal) (n : Fin N) (k : Fin E) : EReal :=
  ∑ i, s n i * w i k

/-- One graph layer: the projected features summed over the neighbours, the bias added, and rectified. -/
def layer {M N E : Nat} (A : Fin M → Fin N → EReal) (f : Fin N → Fin E → EReal) (b : Fin E → EReal) (a : EReal) (n : Fin M) (k : Fin E) :
    EReal :=
  prelu a ((∑ r, A n r * f r k) + b k)

/-- The logistic of a sum over all nodes divided by the constant 10000. -/
def readout (s : EReal) : EReal := Ideal.logistic (Ideal.div s (Ideal.ofBits .f32 0x461C4000#32))

/-- One score the way the reference groups it: the weights meet the node first, then the context. -/
def score {D : Nat} (c : Fin D → EReal) (w : Fin D → Fin D → EReal) (h : Fin D → EReal) (bb : EReal) : EReal :=
  (∑ j, c j * ∑ i, w i j * h i) + bb

/-- The sum of two scores the way the kernel groups it: the contexts are added first, then meet the weights, then the node. -/
def folded {D : Nat} (c : Fin D → EReal) (w : Fin D → Fin D → EReal) (h : Fin D → EReal) (bb : EReal) : EReal :=
  (∑ i, h i * ∑ j, c j * w i j) + 2 * bb

theorem proj_congr {N D E : Nat} {s s' : Fin N → Fin D → EReal} {w w' : Fin D → Fin E → EReal} (hs : ∀ n i, s n i = s' n i)
    (hw : ∀ i k, w i k = w' i k) (n : Fin N) (k : Fin E) : proj s w n k = proj s' w' n k := by
  rw [funext₂ hs, funext₂ hw]

theorem layer_congr {M N E : Nat} {A A' : Fin M → Fin N → EReal} {f f' : Fin N → Fin E → EReal} {b b' : Fin E → EReal} {a a' : EReal}
    (hA : ∀ n r, A n r = A' n r) (hf : ∀ n k, f n k = f' n k) (hb : ∀ k, b k = b' k) (ha : a = a') (n : Fin M) (k : Fin E) :
    layer A f b a n k = layer A' f' b' a' n k := by
  rw [funext₂ hA, funext₂ hf, funext hb, ha]

theorem folded_congr {D : Nat} {c c' : Fin D → EReal} {w w' : Fin D → Fin D → EReal} {h h' : Fin D → EReal} {bb bb' : EReal}
    (hc : ∀ j, c j = c' j) (hw : ∀ i j, w i j = w' i j) (hh : ∀ i, h i = h' i) (hb : bb = bb') : folded c w h bb = folded c' w' h' bb' := by
  rw [funext hc, funext₂ hw, funext hh, hb]

/-- An extended real that is a real. -/
def IsReal (x : EReal) : Prop := ∃ r : ℝ, x = r

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A finite sum of reals, read among the extended reals. -/
theorem coe_sum {n : Nat} (f : Fin n → ℝ) : ((∑ i, f i : ℝ) : EReal) = ∑ i, (f i : EReal) := by
  induction n with
  | zero => simp
  | succ n ih => rw [Fin.sum_univ_succ, Fin.sum_univ_succ, EReal.coe_add, ih]

theorem IsReal.sum {n : Nat} {f : Fin n → EReal} (h : ∀ i, IsReal (f i)) : IsReal (∑ i, f i) := by
  choose g hg using h
  exact ⟨∑ i, g i, by rw [coe_sum]; exact Finset.sum_congr rfl fun i _ => hg i⟩

theorem IsReal.prelu {a x : EReal} (ha : IsReal a) (hx : IsReal x) : IsReal (prelu a x) := by
  unfold Spec.prelu
  split
  · exact hx
  · exact ha.mul hx

theorem IsReal.layer {M N E : Nat} {A : Fin M → Fin N → EReal} {f : Fin N → Fin E → EReal} {b : Fin E → EReal} {a : EReal}
    (hA : ∀ n r, IsReal (A n r)) (hf : ∀ n k, IsReal (f n k)) (hb : ∀ k, IsReal (b k)) (ha : IsReal a) (n : Fin M) (k : Fin E) :
    IsReal (layer A f b a n k) :=
  ha.prelu ((IsReal.sum fun r => (hA n r).mul (hf r k)).add (hb k))

theorem IsReal.proj {N D E : Nat} {s : Fin N → Fin D → EReal} {w : Fin D → Fin E → EReal} (hs : ∀ n i, IsReal (s n i))
    (hw : ∀ i k, IsReal (w i k)) (n : Fin N) (k : Fin E) : IsReal (proj s w n k) :=
  IsReal.sum fun i => (hs n i).mul (hw i k)

/-- The logistic is real everywhere, at the two infinities too. -/
theorem isReal_logistic (x : EReal) : IsReal (Ideal.logistic x) := by
  induction x with
  | bot => exact ⟨0, by rw [Ideal.logistic_bot]; rfl⟩
  | coe r => exact ⟨_, Ideal.logistic_coe r⟩
  | top => exact ⟨1, by rw [Ideal.logistic_top]; rfl⟩

theorem isReal_readout (s : EReal) : IsReal (readout s) := isReal_logistic _

/-- Twice any extended real is its sum with itself. -/
theorem two_mul' (x : EReal) : 2 * x = x + x := by
  induction x with
  | bot => rw [show (2 : EReal) = ((2 : ℝ) : EReal) from rfl, EReal.coe_mul_bot_of_pos (by norm_num)]; rfl
  | coe r =>
    rw [show (2 : EReal) = ((2 : ℝ) : EReal) from rfl, ← EReal.coe_mul, ← EReal.coe_add]
    exact congrArg _ (two_mul r)
  | top => rw [show (2 : EReal) = ((2 : ℝ) : EReal) from rfl, EReal.coe_mul_top_of_pos (by norm_num)]; rfl

/-- Among reals the two groupings of the bilinear form agree. -/
theorem bilinear {D : Nat} (c c' h : Fin D → ℝ) (w : Fin D → Fin D → ℝ) :
    (∑ i, h i * ∑ j, (c j + c' j) * w i j) = (∑ j, c j * ∑ i, w i j * h i) + ∑ j, c' j * ∑ i, w i j * h i := by
  simp only [Finset.mul_sum]
  rw [Finset.sum_comm, ← Finset.sum_add_distrib]
  refine Finset.sum_congr rfl fun j _ => ?_
  rw [← Finset.sum_add_distrib]
  exact Finset.sum_congr rfl fun i _ => by ring

/-- The kernel's grouping is the sum of the reference's two scores, where the contexts, the weights and the node are real. The bias
    may be any extended real. -/
theorem folded_eq {D : Nat} {c c' h : Fin D → EReal} {w : Fin D → Fin D → EReal} (bb : EReal) (hc : ∀ j, IsReal (c j))
    (hc' : ∀ j, IsReal (c' j)) (hh : ∀ i, IsReal (h i)) (hw : ∀ i j, IsReal (w i j)) :
    folded (fun j => c j + c' j) w h bb = score c w h bb + score c' w h bb := by
  choose c₀ hc using hc
  choose c₁ hc' using hc'
  choose h₀ hh using hh
  choose w₀ hw using hw
  have key := congrArg (fun r : ℝ => (r : EReal)) (bilinear c₀ c₁ h₀ w₀)
  simp only [coe_sum, EReal.coe_add, EReal.coe_mul] at key
  unfold folded score
  simp only [hc, hc', hh, hw]
  rw [key, two_mul', add_add_add_comm]

end Cert.Spec
-- ==== Proof.KernelIdeal.Payloads.lean ====
/- What the two kernels compute, read at an index over the extended reals. -/
module

public import proofs.«01_k».proof.Proof.KernelIdeal.AdjBody
public import proofs.«01_k».proof.Proof.Spec
public import Idealize.ShloMosaic.Lib.Pointwise

@[expose] public section

noncomputable section

namespace Cert.KernelIdeal.Hand

open Idealize.ShloMosaic Cert.KernelIdeal Cert.KernelIdeal.Gen Cert.Spec

theorem aug_feats_apply (w : Vec Ideal S128x128 .f32) (s : Vec Ideal S10000x128 .f32) (n : Fin 10000) (k : Fin 128) :
    k0_pay1 (F := Ideal) w s (ix2 n k) = proj (fun n i => s (ix2 n i)) (fun i k => w (ix2 i k)) n k := by
  unfold k0_pay1 proj
  pointwise [dot_S10000x128_S128x128_S10000x128_1_0_0_1_n_n]

theorem aug_feats2_apply (w : Vec Ideal S128x128 .f32) (s : Vec Ideal S10000x128 .f32) (n : Fin 10000) (k : Fin 128) :
    k0_pay2 (F := Ideal) w s (ix2 n k) = proj (fun n i => s (ix2 n i)) (fun i k => w (ix2 i k)) n k :=
  aug_feats_apply w s n k

theorem aug_start_apply (i : Fin 2) (k : Fin 128) : k0_pay3 (F := Ideal) (ix2 i k) = 0 := by
  unfold k0_pay3
  pointwise

/-- A row of sums after one block: what it was, plus the block's column sums of the layer. -/
theorem aug_sum0_apply (f : Vec Ideal S10000x128 .bf16) (a : Vec Ideal S1x1 .f32) (b : Vec Ideal S1x128 .f32) (A : Vec Ideal S200x10000 .f32)
    (s : Vec Ideal S1x128 .f32) (k : Fin 128) :
    k0_pay7 (F := Ideal) f a b A s (ix2 0 k)
      = s (ix2 0 k) + ∑ n : Fin 200, layer (fun n r => A (ix2 n r)) (fun r k => f (ix2 r k)) (fun k => b (ix2 0 k)) (a (ix2 0 0)) n k := by
  unfold k0_pay7 layer prelu
  pointwise [dot_S200x10000_S10000x128_S200x128_1_0_0_1_n_n, k0_pay4, k0_pay5, k0_pay6]

theorem aug_sum1_apply (f : Vec Ideal S10000x128 .bf16) (a : Vec Ideal S1x1 .f32) (b : Vec Ideal S1x128 .f32) (A : Vec Ideal S200x10000 .f32)
    (s : Vec Ideal S1x128 .f32) (k : Fin 128) :
    k0_pay8 (F := Ideal) f a b A s (ix2 0 k)
      = s (ix2 0 k) + ∑ n : Fin 200, layer (fun n r => A (ix2 n r)) (fun r k => f (ix2 r k)) (fun k => b (ix2 0 k)) (a (ix2 0 0)) n k :=
  aug_sum0_apply f a b A s k

theorem adj_layer_apply (A : Vec Ideal S400x10000 .f32) (a : Vec Ideal S1x1 .f32) (b : Vec Ideal S1x128 .f32) (f : Vec Ideal S10000x128 .bf16)
    (n : Fin 400) (k : Fin 128) :
    k1_pay8 (F := Ideal) A a b f (ix2 n k)
      = layer (fun n r => A (ix2 n r)) (fun r k => f (ix2 r k)) (fun k => b (ix2 0 k)) (a (ix2 0 0)) n k := by
  unfold k1_pay8 layer prelu
  pointwise [dot_S400x10000_S10000x128_S400x128_1_0_0_1_n_n, k1_pay5, k1_pay6, k1_pay7]

theorem adj_layer2_apply (A : Vec Ideal S400x10000 .f32) (a : Vec Ideal S1x1 .f32) (b : Vec Ideal S1x128 .f32) (f : Vec Ideal S10000x128 .bf16)
    (n : Fin 400) (k : Fin 128) :
    k1_pay9 (F := Ideal) A a b f (ix2 n k)
      = layer (fun n r => A (ix2 n r)) (fun r k => f (ix2 r k)) (fun k => b (ix2 0 k)) (a (ix2 0 0)) n k :=
  adj_layer_apply A a b f n k

theorem adj_context_apply (s t : Vec Ideal S1x128 .f32) (k : Fin 128) :
    k1_pay10 (F := Ideal) s t (ix2 0 k) = readout (s (ix2 0 k)) + readout (t (ix2 0 k)) := by
  unfold k1_pay10 readout
  pointwise

/-- The word of the literal 2. -/
theorem two_word : Ideal.ofBits .f32 0x40000000#32 = 2 := by
  rw [show (2 : EReal) = ((2 : ℝ) : EReal) from rfl]
  simp [Ideal.ofBits, Ideal.ieee, -EReal.coe_mul]; norm_num

theorem adj_score_apply (h : Vec Ideal S400x128 .f32) (c : Vec Ideal S1x128 .f32) (w : Vec Ideal S128x128 .f32) (bb : Vec Ideal S1x1 .f32)
    (n : Fin 400) :
    k1_pay3 (F := Ideal) h c w bb (ix2 n 0)
      = folded (fun j => c (ix2 0 j)) (fun i j => w (ix2 j i)) (fun i => h (ix2 n i)) (bb (ix2 0 0)) := by
  unfold k1_pay3 k1_pay1 k1_pay2 folded
  pointwise [dot_S1x128_S128x128_S1x128_1_0_0_1_n_n, two_word]

theorem adj_score2_apply (h : Vec Ideal S400x128 .f32) (c : Vec Ideal S1x128 .f32) (w : Vec Ideal S128x128 .f32) (bb : Vec Ideal S1x1 .f32)
    (n : Fin 400) :
    k1_pay4 (F := Ideal) h c w bb (ix2 n 0)
      = folded (fun j => c (ix2 0 j)) (fun i j => w (ix2 j i)) (fun i => h (ix2 n i)) (bb (ix2 0 0)) :=
  adj_score_apply h c w bb n

end Cert.KernelIdeal.Hand
-- ==== Proof.KernelIdeal.AugValue.lean ====
/- What the first call leaves in its three result arrays, over the extended reals. -/
module

public import proofs.«01_k».proof.Proof.KernelIdeal.Payloads
public import proofs.«01_k».proof.Proof.KernelIdeal.AugData
public import Idealize.ShloMosaic.Lib.Pipeline.ValueKit

@[expose] public section

set_option maxRecDepth 16384

noncomputable section

namespace Cert.KernelIdeal.Hand

open Idealize.ShloMosaic Idealize.ShloMosaic.TcCoe Cert.KernelIdeal Cert.KernelIdeal.Gen Cert.Spec

variable (V : (c : Dev nD) → (b : Ref sig .tc) → Buf (Elt Ideal) ((c : Thread nD τ).loc b)) (c : Dev nD)

/-- The block of rows an augmented adjacency is at; every other input is its one block. -/
theorem index0_0 : ∀ t : Fin cfg0.N, win0_0.index t = ![0, 0] :=
  (by decide +kernel : ∀ t : Fin grid0.N, win0_0.index t = ![0, 0])
theorem index0_1 : ∀ t : Fin cfg0.N, win0_1.index t = ![0, 0] :=
  (by decide +kernel : ∀ t : Fin grid0.N, win0_1.index t = ![0, 0])
theorem index0_2 : ∀ t : Fin cfg0.N, win0_2.index t = ![0, 0] :=
  (by decide +kernel : ∀ t : Fin grid0.N, win0_2.index t = ![0, 0])
theorem index0_3 : ∀ t : Fin cfg0.N, win0_3.index t = ![t.val - 1, 0] :=
  (by decide +kernel : ∀ t : Fin grid0.N, win0_3.index t = ![t.val - 1, 0])
theorem index0_4 : ∀ t : Fin cfg0.N, win0_4.index t = ![t.val - 1, 0] :=
  (by decide +kernel : ∀ t : Fin grid0.N, win0_4.index t = ![t.val - 1, 0])
theorem index0_5 : ∀ t : Fin cfg0.N, win0_5.index t = ![0, 0] :=
  (by decide +kernel : ∀ t : Fin grid0.N, win0_5.index t = ![0, 0])
theorem index0_6 : ∀ t : Fin cfg0.N, win0_6.index t = ![0, 0] :=
  (by decide +kernel : ∀ t : Fin grid0.N, win0_6.index t = ![0, 0])

theorem blk0_0_apply (t : Fin cfg0.N) (n : Fin 10000) (k : Fin 128) : blk0 V c 0 t (ix2 n k) = V c main_call0_v3 (ix2 n k) := by
  blk_simp [blk0]
  refine congrArg (V c main_call0_v3) ?_
  blk_ext [index0_0]

theorem blk0_1_apply (t : Fin cfg0.N) (n : Fin 10000) (k : Fin 128) : blk0 V c 1 t (ix2 n k) = V c main_call0_v4 (ix2 n k) := by
  blk_simp [blk0]
  refine congrArg (V c main_call0_v4) ?_
  blk_ext [index0_1]

theorem blk0_2_apply (t : Fin cfg0.N) (i k : Fin 128) : blk0 V c 2 t (ix2 i k) = V c main_arg5 (ix2 i k) := by
  blk_simp [blk0]
  refine congrArg (V c main_arg5) ?_
  blk_ext [index0_2]

theorem blk0_3_apply (n : Nat) (hn : n + 1 < cfg0.N) (q : Fin 200) (r : Fin 10000) :
    blk0 V c 3 ⟨n + 1, hn⟩ (ix2 q r) = V c main_arg3 (ix2 ⟨n * 200 + q.val, by have : cfg0.N = 51 := N_0; omega⟩ r) := by
  blk_simp [blk0]
  refine congrArg (V c main_arg3) ?_
  blk_ext [index0_3]

theorem blk0_4_apply (n : Nat) (hn : n + 1 < cfg0.N) (q : Fin 200) (r : Fin 10000) :
    blk0 V c 4 ⟨n + 1, hn⟩ (ix2 q r) = V c main_arg4 (ix2 ⟨n * 200 + q.val, by have : cfg0.N = 51 := N_0; omega⟩ r) := by
  blk_simp [blk0]
  refine congrArg (V c main_arg4) ?_
  blk_ext [index0_4]

theorem blk0_5_apply (t : Fin cfg0.N) (k : Fin 128) : blk0 V c 5 t (ix2 0 k) = V c main_call0_v0 (ix2 0 k) := by
  blk_simp [blk0]
  refine congrArg (V c main_call0_v0) ?_
  blk_ext [index0_5]

theorem blk0_6_apply (t : Fin cfg0.N) : blk0 V c 6 t (ix2 0 0) = V c main_call0_v1 (ix2 0 0) := by
  blk_simp [blk0]
  refine congrArg (V c main_call0_v1) ?_
  blk_ext [index0_6]

/-! ## The feature matrices -/

/-- The projected features of the two sequences. -/
def proj1 (n : Fin 10000) (k : Fin 128) : EReal :=
  proj (fun n i => V c main_call0_v3 (ix2 n i)) (fun i k => V c main_arg5 (ix2 i k)) n k
def proj2 (n : Fin 10000) (k : Fin 128) : EReal :=
  proj (fun n i => V c main_call0_v4 (ix2 n i)) (fun i k => V c main_arg5 (ix2 i k)) n k

theorem feats1_apply (n : Fin 10000) (k : Fin 128) : feats1 V c (ix2 n k) = proj1 V c n k := by
  unfold feats1 proj1
  rw [aug_feats_apply]
  unfold proj
  simp only [blk0_0_apply, blk0_2_apply]

theorem feats2_apply (n : Fin 10000) (k : Fin 128) : feats2 V c (ix2 n k) = proj2 V c n k := by
  unfold feats2 proj2
  rw [aug_feats2_apply]
  unfold proj
  simp only [blk0_1_apply, blk0_2_apply]

/-! ## The column sums -/

theorem ld_row0 (s : Vec Ideal S2x128 .f32) (k : Fin 128) : View.ld s row0 (ix2 0 k) = s (ix2 0 k) := by
  pointwise [row0]

theorem ld_row1 (s : Vec Ideal S2x128 .f32) (k : Fin 128) : View.ld s row1 (ix2 0 k) = s (ix2 1 k) := by
  pointwise [row1]

theorem emb_row0 (k : Fin 128) : (row0 : Rect S2x128).emb (ix2 0 k) = ix2 0 k :=
  funext fun a => by fin_cases a <;> exact Fin.ext (by simp [row0, ix2])

theorem emb_row1 (k : Fin 128) : (row1 : Rect S2x128).emb (ix2 0 k) = ix2 1 k :=
  funext fun a => by fin_cases a <;> exact Fin.ext (by simp [row1, ix2])

theorem not_mem_row1 (k : Fin 128) : (ix2 0 k : S2x128.Idx) ∉ (row1 : Rect S2x128).set := by
  unfold row1
  rw [Rect.mem_set_unit]
  intro h
  have := (h 0).1
  simp [ix2] at this

theorem sumsStep_row0 (f : Vec Ideal S10000x128 .bf16) (A B : Vec Ideal S200x10000 .f32) (b : Vec Ideal S1x128 .f32) (a : Vec Ideal S1x1 .f32)
    (s : Vec Ideal S2x128 .f32) (k : Fin 128) :
    sumsStep f A B b a s (ix2 0 k)
      = s (ix2 0 k) + ∑ n : Fin 200, layer (fun n r => A (ix2 n r)) (fun r k => f (ix2 r k)) (fun k => b (ix2 0 k)) (a (ix2 0 0)) n k := by
  unfold sumsStep
  have hr := View.canon_cons_of_not_mem (Val := Elt Ideal) (e := .f32) ⟨row1, k0_pay8 f a b B (View.ld s row1)⟩
    [⟨row0, k0_pay7 f a b A (View.ld s row0)⟩] (y := ix2 0 k) (not_mem_row1 k)
  have h := View.canon_cons_emb (Val := Elt Ideal) (e := .f32) row0 (k0_pay7 f a b A (View.ld s row0)) [] (ix2 0 k)
  rw [emb_row0] at h
  rw [hr, h, aug_sum0_apply, ld_row0]

theorem sumsStep_row1 (f : Vec Ideal S10000x128 .bf16) (A B : Vec Ideal S200x10000 .f32) (b : Vec Ideal S1x128 .f32) (a : Vec Ideal S1x1 .f32)
    (s : Vec Ideal S2x128 .f32) (k : Fin 128) :
    sumsStep f A B b a s (ix2 1 k)
      = s (ix2 1 k) + ∑ n : Fin 200, layer (fun n r => B (ix2 n r)) (fun r k => f (ix2 r k)) (fun k => b (ix2 0 k)) (a (ix2 0 0)) n k := by
  unfold sumsStep
  have h := View.canon_cons_emb (Val := Elt Ideal) (e := .f32) row1 (k0_pay8 f a b B (View.ld s row1))
    [⟨row0, k0_pay7 f a b A (View.ld s row0)⟩] (ix2 0 k)
  rw [emb_row1] at h
  rw [h, aug_sum1_apply, ld_row1]

/-- A layer of the first sequence over an adjacency, from the arrays the call finds. -/
def hidden (A : Vec Ideal S10000x10000 .f32) (n : Fin 10000) (k : Fin 128) : EReal :=
  layer (fun n r => A (ix2 n r)) (proj1 V c) (fun k => V c main_call0_v0 (ix2 0 k)) (V c main_call0_v1 (ix2 0 0)) n k

theorem sumsAt_row0 (k : Fin 128) : ∀ (n : Nat) (hn : n < cfg0.N), sumsAt V c n hn (ix2 0 k)
      = ∑ p : Fin n, ∑ q : Fin 200, hidden V c (V c main_arg3) ⟨p.val * 200 + q.val, by have : cfg0.N = 51 := N_0; omega⟩ k
  | 0, hn => aug_start_apply 0 k
  | n + 1, hn => by
    rw [Fin.sum_univ_castSucc]
    unfold sumsAt
    rw [sumsStep_row0, sumsAt_row0 k n]
    refine congrArg (_ + ·) (Finset.sum_congr rfl fun q _ => ?_)
    unfold hidden layer
    simp only [blk0_3_apply, blk0_5_apply, blk0_6_apply, feats1_apply]
    rfl

theorem sumsAt_row1 (k : Fin 128) : ∀ (n : Nat) (hn : n < cfg0.N), sumsAt V c n hn (ix2 1 k)
      = ∑ p : Fin n, ∑ q : Fin 200, hidden V c (V c main_arg4) ⟨p.val * 200 + q.val, by have : cfg0.N = 51 := N_0; omega⟩ k
  | 0, hn => aug_start_apply 1 k
  | n + 1, hn => by
    rw [Fin.sum_univ_castSucc]
    unfold sumsAt
    rw [sumsStep_row1, sumsAt_row1 k n]
    refine congrArg (_ + ·) (Finset.sum_congr rfl fun q _ => ?_)
    unfold hidden layer
    simp only [blk0_4_apply, blk0_5_apply, blk0_6_apply, feats1_apply]
    rfl

/-! ## The result arrays -/

theorem last_lt0 : 50 < cfg0.N := by rw [show cfg0.N = 51 from N_0]; omega
/-- The last point, the one that writes the three results back. -/
def last0 : Fin cfg0.N := ⟨50, last_lt0⟩

theorem aug_out7 (n : Fin 10000) (k : Fin 128) : (dat0 V c).arrAt 7 cfg0.N (ix2 n k) = proj1 V c n k := by
  rw [← feats1_apply]
  refine congrFun ((dat0 V c).arrAt_eq_of_after_last 7 last0 (by decide +kernel) (feats1 V c) fun j => ?_) _
  rfl

theorem aug_out8 (n : Fin 10000) (k : Fin 128) : (dat0 V c).arrAt 8 cfg0.N (ix2 n k) = proj2 V c n k := by
  rw [← feats2_apply]
  refine congrFun ((dat0 V c).arrAt_eq_of_after_last 8 last0 (by decide +kernel) (feats2 V c) fun j => ?_) _
  rfl

theorem aug_out9 : (dat0 V c).arrAt 9 cfg0.N = sumsAt V c 50 last_lt0 :=
  (dat0 V c).arrAt_eq_of_after_last 9 last0 (by decide +kernel) (sumsAt V c 50 last_lt0) fun j => rfl

theorem aug_out9_row0 (k : Fin 128) : (dat0 V c).arrAt 9 cfg0.N (ix2 0 k) = ∑ n, hidden V c (V c main_arg3) n k := by
  rw [aug_out9, sumsAt_row0]
  exact Fin.sum_mul_add_fin 50 200 (fun n => hidden V c (V c main_arg3) n k)

theorem aug_out9_row1 (k : Fin 128) : (dat0 V c).arrAt 9 cfg0.N (ix2 1 k) = ∑ n, hidden V c (V c main_arg4) n k := by
  rw [aug_out9, sumsAt_row1]
  exact Fin.sum_mul_add_fin 50 200 (fun n => hidden V c (V c main_arg4) n k)

end Cert.KernelIdeal.Hand
-- ==== Proof.KernelIdeal.AdjValue.lean ====
/- What the second call leaves in its result array, over the extended reals. -/
module

public import proofs.«01_k».proof.Proof.KernelIdeal.AugValue
public import proofs.«01_k».proof.Proof.KernelIdeal.AdjData
public import Idealize.ShloMosaic.Lib.Pipeline.ValueKit

@[expose] public section

set_option maxRecDepth 16384

noncomputable section

namespace Cert.KernelIdeal.Hand

open Idealize.ShloMosaic Idealize.ShloMosaic.TcCoe Cert.KernelIdeal Cert.KernelIdeal.Gen Cert.Spec

variable (V : (c : Dev nD) → (b : Ref sig .tc) → Buf (Elt Ideal) ((c : Thread nD τ).loc b)) (c : Dev nD)

/-- The block of rows the adjacency and the scores are at; every other input is its one block. -/
theorem index1_0 : ∀ t : Fin cfg1.N, win1_0.index t = ![0, 0] :=
  (by decide +kernel : ∀ t : Fin grid1.N, win1_0.index t = ![0, 0])
theorem index1_1 : ∀ t : Fin cfg1.N, win1_1.index t = ![t.val, 0] :=
  (by decide +kernel : ∀ t : Fin grid1.N, win1_1.index t = ![t.val, 0])
theorem index1_2 : ∀ t : Fin cfg1.N, win1_2.index t = ![0, 0] :=
  (by decide +kernel : ∀ t : Fin grid1.N, win1_2.index t = ![0, 0])
theorem index1_3 : ∀ t : Fin cfg1.N, win1_3.index t = ![0, 0] :=
  (by decide +kernel : ∀ t : Fin grid1.N, win1_3.index t = ![0, 0])
theorem index1_4 : ∀ t : Fin cfg1.N, win1_4.index t = ![0, 0] :=
  (by decide +kernel : ∀ t : Fin grid1.N, win1_4.index t = ![0, 0])
theorem index1_5 : ∀ t : Fin cfg1.N, win1_5.index t = ![0, 0] :=
  (by decide +kernel : ∀ t : Fin grid1.N, win1_5.index t = ![0, 0])
theorem index1_6 : ∀ t : Fin cfg1.N, win1_6.index t = ![0, 0] :=
  (by decide +kernel : ∀ t : Fin grid1.N, win1_6.index t = ![0, 0])
theorem index1_7 : ∀ t : Fin cfg1.N, win1_7.index t = ![0, 0] :=
  (by decide +kernel : ∀ t : Fin grid1.N, win1_7.index t = ![0, 0])
theorem index1_8 : ∀ t : Fin cfg1.N, win1_8.index t = ![t.val, 0] :=
  (by decide +kernel : ∀ t : Fin grid1.N, win1_8.index t = ![t.val, 0])

theorem N1_eq : cfg1.N = 25 := N_1

theorem blk1_0_apply (t : Fin cfg1.N) (i : Fin 2) (k : Fin 128) : blk1 V c 0 t (ix2 i k) = V c main_call0_v5_2 (ix2 i k) := by
  blk_simp [blk1]
  refine congrArg (V c main_call0_v5_2) ?_
  blk_ext [index1_0]

theorem blk1_2_apply (t : Fin cfg1.N) (n : Fin 10000) (k : Fin 128) : blk1 V c 2 t (ix2 n k) = V c main_call0_v5_0 (ix2 n k) := by
  blk_simp [blk1]
  refine congrArg (V c main_call0_v5_0) ?_
  blk_ext [index1_2]

theorem blk1_3_apply (t : Fin cfg1.N) (n : Fin 10000) (k : Fin 128) : blk1 V c 3 t (ix2 n k) = V c main_call0_v5_1 (ix2 n k) := by
  blk_simp [blk1]
  refine congrArg (V c main_call0_v5_1) ?_
  blk_ext [index1_3]

theorem blk1_4_apply (t : Fin cfg1.N) (k : Fin 128) : blk1 V c 4 t (ix2 0 k) = V c main_call0_v0 (ix2 0 k) := by
  blk_simp [blk1]
  refine congrArg (V c main_call0_v0) ?_
  blk_ext [index1_4]

theorem blk1_5_apply (t : Fin cfg1.N)  : blk1 V c 5 t (ix2 0 0) = V c main_call0_v1 (ix2 0 0) := by
  blk_simp [blk1]
  refine congrArg (V c main_call0_v1) ?_
  blk_ext [index1_5]

theorem blk1_6_apply (t : Fin cfg1.N) (i k : Fin 128) : blk1 V c 6 t (ix2 i k) = V c main_call0_v7 (ix2 i k) := by
  blk_simp [blk1]
  refine congrArg (V c main_call0_v7) ?_
  blk_ext [index1_6]

theorem blk1_7_apply (t : Fin cfg1.N)  : blk1 V c 7 t (ix2 0 0) = V c main_call0_v2 (ix2 0 0) := by
  blk_simp [blk1]
  refine congrArg (V c main_call0_v2) ?_
  blk_ext [index1_7]

theorem blk1_1_apply (t : Fin cfg1.N) (q : Fin 400) (r : Fin 10000) :
    blk1 V c 1 t (ix2 q r) = V c main_arg2 (ix2 ⟨t.val * 400 + q.val, by have := N1_eq; omega⟩ r) := by
  blk_simp [blk1]
  refine congrArg (V c main_arg2) ?_
  blk_ext [index1_1]

/-- The two contexts, added. -/
def context (k : Fin 128) : EReal := readout (V c main_call0_v5_2 (ix2 0 k)) + readout (V c main_call0_v5_2 (ix2 1 k))

/-- A layer over the adjacency, from the arrays the call finds. -/
def output (f : Vec Ideal S10000x128 .bf16) (n : Fin 10000) (k : Fin 128) : EReal :=
  layer (fun n r => V c main_arg2 (ix2 n r)) (fun r k => f (ix2 r k)) (fun k => V c main_call0_v0 (ix2 0 k)) (V c main_call0_v1 (ix2 0 0)) n k

/-- One node's score against the added contexts. -/
def scoreOf (f : Vec Ideal S10000x128 .bf16) (n : Fin 10000) : EReal :=
  folded (context V c) (fun i j => V c main_call0_v7 (ix2 j i)) (fun i => output V c f n i) (V c main_call0_v2 (ix2 0 0))

/-- The scores of the two sequences, in two columns. -/
def scoreArray : Vec Ideal S10000x2 .f32 := fun j => if (j 1).val = 0 then scoreOf V c (V c main_call0_v5_0) (j 0) else scoreOf V c (V c main_call0_v5_1) (j 0)

theorem emb_col0 (q : Fin 400) : (col0 : Rect S400x2).emb (ix2 q 0) = ix2 q 0 :=
  funext fun a => by fin_cases a <;> exact Fin.ext (by simp [col0, ix2])

theorem emb_col1 (q : Fin 400) : (col1 : Rect S400x2).emb (ix2 q 0) = ix2 q 1 :=
  funext fun a => by fin_cases a <;> exact Fin.ext (by simp [col1, ix2])

theorem not_mem_col1 (q : Fin 400) : (ix2 q 0 : S400x2.Idx) ∉ (col1 : Rect S400x2).set := by
  unfold col1
  rw [Rect.mem_set_unit]
  intro h
  have := (h 1).1
  simp [ix2] at this

theorem context_ld (x0 : Vec Ideal S2x128 .f32) (k : Fin 128) :
    k1_pay10 (F := Ideal) (View.ld x0 row0) (View.ld x0 row1) (ix2 0 k) = readout (x0 (ix2 0 k)) + readout (x0 (ix2 1 k)) :=
  (adj_context_apply _ _ k).trans (congrArg₂ (fun a b => readout a + readout b) (ld_row0 x0 k) (ld_row1 x0 k))

section Step
variable (x0 : Vec Ideal S2x128 .f32) (x1 : Vec Ideal S400x10000 .f32) (x2 x3 : Vec Ideal S10000x128 .bf16) (x4 : Vec Ideal S1x128 .f32)
    (x5 : Vec Ideal S1x1 .f32) (x6 : Vec Ideal S128x128 .f32) (x7 : Vec Ideal S1x1 .f32) (q : Fin 400)

theorem scores_col0 :
    scores x0 x1 x2 x3 x4 x5 x6 x7 (ix2 q 0)
      = folded (fun k => readout (x0 (ix2 0 k)) + readout (x0 (ix2 1 k))) (fun i j => x6 (ix2 j i))
          (fun i => layer (fun n r => x1 (ix2 n r)) (fun r k => x2 (ix2 r k)) (fun k => x4 (ix2 0 k)) (x5 (ix2 0 0)) q i) (x7 (ix2 0 0)) := by
  unfold scores
  have hr := View.canon_cons_of_not_mem (Val := Elt Ideal) (e := .f32)
    ⟨col1, k1_pay4 (k1_pay9 x1 x5 x4 x3) (k1_pay10 (View.ld x0 row0) (View.ld x0 row1)) x6 x7⟩
    [⟨col0, k1_pay3 (k1_pay8 x1 x5 x4 x2) (k1_pay10 (View.ld x0 row0) (View.ld x0 row1)) x6 x7⟩] (y := ix2 q 0) (not_mem_col1 q)
  have h := View.canon_cons_emb (Val := Elt Ideal) (e := .f32) col0
    (k1_pay3 (k1_pay8 x1 x5 x4 x2) (k1_pay10 (View.ld x0 row0) (View.ld x0 row1)) x6 x7) [] (ix2 q 0)
  rw [emb_col0] at h
  rw [hr, h, adj_score_apply]
  simp only [context_ld, adj_layer_apply]

theorem scores_col1 :
    scores x0 x1 x2 x3 x4 x5 x6 x7 (ix2 q 1)
      = folded (fun k => readout (x0 (ix2 0 k)) + readout (x0 (ix2 1 k))) (fun i j => x6 (ix2 j i))
          (fun i => layer (fun n r => x1 (ix2 n r)) (fun r k => x3 (ix2 r k)) (fun k => x4 (ix2 0 k)) (x5 (ix2 0 0)) q i) (x7 (ix2 0 0)) := by
  unfold scores
  have h := View.canon_cons_emb (Val := Elt Ideal) (e := .f32) col1
    (k1_pay4 (k1_pay9 x1 x5 x4 x3) (k1_pay10 (View.ld x0 row0) (View.ld x0 row1)) x6 x7)
    [⟨col0, k1_pay3 (k1_pay8 x1 x5 x4 x2) (k1_pay10 (View.ld x0 row0) (View.ld x0 row1)) x6 x7⟩] (ix2 q 0)
  rw [emb_col1] at h
  rw [h, adj_score2_apply]
  simp only [context_ld, adj_layer2_apply]

end Step

theorem scoresAt_col0 (t : Fin cfg1.N) (q : Fin 400) :
    scoresAt V c t (ix2 q 0) = scoreOf V c (V c main_call0_v5_0) ⟨t.val * 400 + q.val, by have := N1_eq; omega⟩ := by
  unfold scoresAt scoreOf context output
  rw [scores_col0]
  unfold layer
  simp only [blk1_0_apply, blk1_1_apply, blk1_2_apply, blk1_4_apply, blk1_5_apply, blk1_6_apply, blk1_7_apply]

theorem scoresAt_col1 (t : Fin cfg1.N) (q : Fin 400) :
    scoresAt V c t (ix2 q 1) = scoreOf V c (V c main_call0_v5_1) ⟨t.val * 400 + q.val, by have := N1_eq; omega⟩ := by
  unfold scoresAt scoreOf context output
  rw [scores_col1]
  unfold layer
  simp only [blk1_0_apply, blk1_1_apply, blk1_3_apply, blk1_4_apply, blk1_5_apply, blk1_6_apply, blk1_7_apply]

/-- The block at point `t` of the array of scores, at coordinates. -/
theorem blk8_emb (t : Fin cfg1.N) (q : Fin 400) (j : Fin 2) :
    (win1_8.blk t).view.emb (ix2 q j) = (ix2 ⟨t.val * 400 + q.val, by have := N1_eq; omega⟩ j : S10000x2.Idx) := by
  blk_ext [index1_8]

theorem scoresAt_eq (t : Fin cfg1.N) (y : S400x2.Idx) : scoresAt V c t y = scoreArray V c ((win1_8.blk t).view.emb y) := by
  obtain ⟨q, j, rfl⟩ : ∃ (q : Fin 400) (j : Fin 2), y = ix2 q j := ⟨y 0, y 1, funext fun a => by fin_cases a <;> rfl⟩
  refine Eq.trans ?_ (congrArg (scoreArray V c) (blk8_emb t q j)).symm
  obtain rfl | rfl : j = 0 ∨ j = 1 := (by decide : ∀ j : Fin 2, j = 0 ∨ j = 1) j
  · exact scoresAt_col0 V c t q
  · exact scoresAt_col1 V c t q

theorem adj_out : (dat1 V c).arrAt 8 cfg1.N = scoreArray V c := by
  refine (dat1 V c).arrAt_eq_of_covers 8 (scoreArray V c) (by decide +kernel) fun t hf y => ?_
  rw [after1_8]
  exact scoresAt_eq V c t y

end Cert.KernelIdeal.Hand
-- ==== Proof.KernelIdeal.HostValue.lean ====
/- The kernel's result, read at an index as a formula of the program's arguments. -/
module

public import proofs.«01_k».proof.Proof.KernelIdeal.AdjValue
public import proofs.«01_k».proof.Proof.KernelIdeal.Run

@[expose] public section

set_option maxRecDepth 16384

noncomputable section

namespace Cert.KernelIdeal.Hand

open Idealize.ShloMosaic Idealize.ShloMosaic.TcCoe Cert.KernelIdeal Cert.KernelIdeal.Gen Cert.Spec

variable (m : (ℓ : Loc nD τ sig) → Buf (Elt Ideal) ℓ) (c : Dev nD)

/-! ## Reshapes and the last operations, at an index -/

theorem drop_one (x : Vec Ideal S1x10000x128 .f32) (n : Fin 10000) (k : Fin 128) :
    shapeCast S10000x128 x shapeCasts_S1x10000x128_S10000x128 (ix2 n k) = x (ix3 0 n k) := by
  pointwise

theorem drop_turn (x : Vec Ideal S1x128x128 .f32) (i j : Fin 128) :
    transpose S128x128 [1, 0] (shapeCast S128x128 x shapeCasts_S1x128x128_S128x128) transposes_S128x128_S128x128_1_0 (ix2 j i) = x (ix3 0 i j) := by
  pointwise

/-- The two columns end to end, under a leading axis of one. -/
def joined (x : Vec Ideal S10000x2 .f32) : Vec Ideal S1x20000 .f32 :=
  broadcastInDim S1x20000 ![1] bcast_S20000_S1x20000_1
    (concatenate S20000 0 [⟨S10000, shapeCast S10000 (extractStridedSlice S10000x1 ![0, 0] x slices_S10000x2_S10000x1_0_0) shapeCasts_S10000x1_S10000⟩,
      ⟨S10000, shapeCast S10000 (extractStridedSlice S10000x1 ![0, 1] x slices_S10000x2_S10000x1_0_1) shapeCasts_S10000x1_S10000⟩]
      concatenates_S10000_S10000_S20000_d0)

theorem joined_left (x : Vec Ideal S10000x2 .f32) (n : Fin 10000) : joined x (ix2 0 ⟨n.val, by omega⟩) = x (ix2 n 0) := by
  unfold joined
  pointwise

theorem joined_right (x : Vec Ideal S10000x2 .f32) (n : Fin 10000) : joined x (ix2 0 ⟨10000 + n.val, by omega⟩) = x (ix2 n 1) := by
  unfold joined
  pointwise

/-! ## What the host's operations make of the arguments -/

theorem V1_v0 (k : Fin 128) : V1 m c main_call0_v0 (ix2 0 k) = m ((c : Thread nD τ).loc main_arg6) (ix1 k) := by
  have h : V1 m c main_call0_v0 = shapeCast S1x128 (m ((c : Thread nD τ).loc main_arg6)) shapeCasts_S128_S1x128 := by
    simp only [V1, W1, hostOps0]
    after_results_simp <;> rfl
  rw [h]
  pointwise

theorem V1_v3 (n : Fin 10000) (k : Fin 128) : V1 m c main_call0_v3 (ix2 n k) = m ((c : Thread nD τ).loc main_arg0) (ix3 0 n k) := by
  have h : V1 m c main_call0_v3 = shapeCast S10000x128 (m ((c : Thread nD τ).loc main_arg0)) shapeCasts_S1x10000x128_S10000x128 := by
    simp only [V1, W1, hostOps0]
    after_results_simp <;> rfl
  exact (congrFun h _).trans (drop_one _ n k)

theorem V1_v1 : V1 m c main_call0_v1 (ix2 0 0) = m ((c : Thread nD τ).loc main_arg7) ix0 := by
  have h : V1 m c main_call0_v1 = shapeCast S1x1 (m ((c : Thread nD τ).loc main_arg7)) shapeCasts_S_S1x1 := by
    simp only [V1, W1, hostOps0]
    after_results_simp <;> rfl
  rw [h]
  pointwise

theorem V1_v2 : V1 m c main_call0_v2 (ix2 0 0) = m ((c : Thread nD τ).loc main_arg9) (ix1 0) := by
  have h : V1 m c main_call0_v2 = shapeCast S1x1 (m ((c : Thread nD τ).loc main_arg9)) shapeCasts_S1_S1x1 := by
    simp only [V1, W1, hostOps0]
    after_results_simp <;> rfl
  rw [h]
  pointwise

theorem V1_v4 (n : Fin 10000) (k : Fin 128) : V1 m c main_call0_v4 (ix2 n k) = m ((c : Thread nD τ).loc main_arg1) (ix3 0 n k) := by
  have h : V1 m c main_call0_v4 = shapeCast S10000x128 (m ((c : Thread nD τ).loc main_arg1)) shapeCasts_S1x10000x128_S10000x128 := by
    simp only [V1, W1, hostOps0]
    after_results_simp <;> rfl
  exact (congrFun h _).trans (drop_one _ n k)

theorem V3_v7 (i j : Fin 128) : V3 m c main_call0_v7 (ix2 j i) = m ((c : Thread nD τ).loc main_arg8) (ix3 0 i j) := by
  have h : V3 m c main_call0_v7
      = transpose S128x128 [1, 0] (shapeCast S128x128 (W2 m c main_arg8) shapeCasts_S1x128x128_S128x128) transposes_S128x128_S128x128_1_0 := by
    simp only [V3, W3, hostOps1]
    after_results_simp <;> rfl
  exact (congrFun h _).trans ((drop_turn _ i j).trans (congrFun (W2_args m c main_arg8 (by decide)) _))

theorem V5_v0 : V5 m c main_v0 = joined (W4 m c main_call0_v8) := by
  simp only [V5, W5, hostOps2]
  after_results_simp <;> rfl

/-! ## The two calls' inputs and outputs, from the arguments -/

theorem V1_args (a : Ref sig .tc) (ha : a ∈ argRefs) : V1 m c a = m ((c : Thread nD τ).loc a) := W1_args m c a ha

theorem V3_args (a : Ref sig .tc) (ha : a ∈ argRefs) : V3 m c a = m ((c : Thread nD τ).loc a) := W3_args m c a ha

theorem V3_of_V1 (r : Ref sig .tc) (h : r ∉ written1) (h' : ∀ w : Fin cfg0.W, Pipeline.arrRef spec0 w = r → (cfg0.win w).isOut = false) :
    V3 m c r = V1 m c r :=
  (W3_of m c r h).trans (W2_of m c r h')

theorem V3_v0 (k : Fin 128) : V3 m c main_call0_v0 (ix2 0 k) = m ((c : Thread nD τ).loc main_arg6) (ix1 k) :=
  (congrFun (V3_of_V1 m c main_call0_v0 (by decide +kernel) (by decide +kernel)) _).trans (V1_v0 m c k)

theorem V3_v1 : V3 m c main_call0_v1 (ix2 0 0) = m ((c : Thread nD τ).loc main_arg7) ix0 :=
  (congrFun (V3_of_V1 m c main_call0_v1 (by decide +kernel) (by decide +kernel)) _).trans (V1_v1 m c)

theorem V3_v2 : V3 m c main_call0_v2 (ix2 0 0) = m ((c : Thread nD τ).loc main_arg9) (ix1 0) :=
  (congrFun (V3_of_V1 m c main_call0_v2 (by decide +kernel) (by decide +kernel)) _).trans (V1_v2 m c)

/-- The projected features of a sequence. -/
def features (s : Vec Ideal S1x10000x128 .f32) (n : Fin 10000) (k : Fin 128) : EReal :=
  proj (fun n i => s (ix3 0 n i)) (fun i k => m ((c : Thread nD τ).loc main_arg5) (ix2 i k)) n k

/-- One layer over an adjacency at a node and a feature, as a formula of the arguments. -/
def node (s : Vec Ideal S1x10000x128 .f32) (A : Vec Ideal S10000x10000 .f32) (n : Fin 10000) (k : Fin 128) : EReal :=
  layer (fun n r => A (ix2 n r)) (features m c s) (fun k => m ((c : Thread nD τ).loc main_arg6) (ix1 k))
    (m ((c : Thread nD τ).loc main_arg7) ix0) n k

theorem proj1_eq (n : Fin 10000) (k : Fin 128) : proj1 (V1 m) c n k = features m c (m ((c : Thread nD τ).loc main_arg0)) n k :=
  proj_congr (V1_v3 m c) (fun i k => congrFun (V1_args m c main_arg5 (by decide)) (ix2 i k)) n k

theorem proj2_eq (n : Fin 10000) (k : Fin 128) : proj2 (V1 m) c n k = features m c (m ((c : Thread nD τ).loc main_arg1)) n k :=
  proj_congr (V1_v4 m c) (fun i k => congrFun (V1_args m c main_arg5 (by decide)) (ix2 i k)) n k

theorem hidden_eq (A A' : Vec Ideal S10000x10000 .f32) (hA : A = A') (n : Fin 10000) (k : Fin 128) :
    hidden (V1 m) c A n k = node m c (m ((c : Thread nD τ).loc main_arg0)) A' n k :=
  layer_congr (fun n r => congrFun hA (ix2 n r)) (proj1_eq m c) (V1_v0 m c) (V1_v1 m c) n k

theorem V3_v5_0 (n : Fin 10000) (k : Fin 128) :
    V3 m c main_call0_v5_0 (ix2 n k) = features m c (m ((c : Thread nD τ).loc main_arg0)) n k :=
  (congrFun ((W3_of m c main_call0_v5_0 (by decide +kernel)).trans (W2_arr m c 7)) _).trans
    ((aug_out7 (V1 m) c n k).trans (proj1_eq m c n k))

theorem V3_v5_1 (n : Fin 10000) (k : Fin 128) :
    V3 m c main_call0_v5_1 (ix2 n k) = features m c (m ((c : Thread nD τ).loc main_arg1)) n k :=
  (congrFun ((W3_of m c main_call0_v5_1 (by decide +kernel)).trans (W2_arr m c 8)) _).trans
    ((aug_out8 (V1 m) c n k).trans (proj2_eq m c n k))

theorem V3_v5_2_row0 (k : Fin 128) :
    V3 m c main_call0_v5_2 (ix2 0 k)
      = ∑ n, node m c (m ((c : Thread nD τ).loc main_arg0)) (m ((c : Thread nD τ).loc main_arg3)) n k := by
  refine Eq.trans (α := EReal) (congrFun ((W3_of m c main_call0_v5_2 (by decide +kernel)).trans (W2_arr m c 9)) (ix2 0 k)) ?_
  refine Eq.trans (α := EReal) (aug_out9_row0 (V1 m) c k) ?_
  exact Finset.sum_congr rfl fun n _ => hidden_eq m c _ _ (V1_args m c main_arg3 (by decide)) n k

theorem V3_v5_2_row1 (k : Fin 128) :
    V3 m c main_call0_v5_2 (ix2 1 k)
      = ∑ n, node m c (m ((c : Thread nD τ).loc main_arg0)) (m ((c : Thread nD τ).loc main_arg4)) n k := by
  refine Eq.trans (α := EReal) (congrFun ((W3_of m c main_call0_v5_2 (by decide +kernel)).trans (W2_arr m c 9)) (ix2 1 k)) ?_
  refine Eq.trans (α := EReal) (aug_out9_row1 (V1 m) c k) ?_
  exact Finset.sum_congr rfl fun n _ => hidden_eq m c _ _ (V1_args m c main_arg4 (by decide)) n k

/-- The kernel's score of a node of a sequence, as a formula of the arguments. -/
def result (s : Vec Ideal S1x10000x128 .f32) (n : Fin 10000) : EReal :=
  folded (fun j => readout (∑ n, node m c (m ((c : Thread nD τ).loc main_arg0)) (m ((c : Thread nD τ).loc main_arg3)) n j)
      + readout (∑ n, node m c (m ((c : Thread nD τ).loc main_arg0)) (m ((c : Thread nD τ).loc main_arg4)) n j))
    (fun i j => m ((c : Thread nD τ).loc main_arg8) (ix3 0 i j))
    (fun i => node m c s (m ((c : Thread nD τ).loc main_arg2)) n i) (m ((c : Thread nD τ).loc main_arg9) (ix1 0))

theorem context_eq (j : Fin 128) : context (V3 m) c j
    = readout (∑ n, node m c (m ((c : Thread nD τ).loc main_arg0)) (m ((c : Thread nD τ).loc main_arg3)) n j)
      + readout (∑ n, node m c (m ((c : Thread nD τ).loc main_arg0)) (m ((c : Thread nD τ).loc main_arg4)) n j) :=
  congrArg₂ (fun a b => readout a + readout b) (V3_v5_2_row0 m c j) (V3_v5_2_row1 m c j)

theorem output_eq (f : Vec Ideal S10000x128 .bf16) (s : Vec Ideal S1x10000x128 .f32) (hf : ∀ n k, f (ix2 n k) = features m c s n k)
    (n : Fin 10000) (k : Fin 128) : output (V3 m) c f n k = node m c s (m ((c : Thread nD τ).loc main_arg2)) n k :=
  layer_congr (fun n r => congrFun (V3_args m c main_arg2 (by decide)) (ix2 n r)) hf (V3_v0 m c) (V3_v1 m c) n k

theorem scoreOf_eq (f : Vec Ideal S10000x128 .bf16) (s : Vec Ideal S1x10000x128 .f32) (hf : ∀ n k, f (ix2 n k) = features m c s n k)
    (n : Fin 10000) : scoreOf (V3 m) c f n = result m c s n :=
  folded_congr (context_eq m c) (V3_v7 m c) (output_eq m c f s hf n) (V3_v2 m c)

theorem V4_v8 : W4 m c main_call0_v8 = scoreArray (V3 m) c := (W4_arr m c 8).trans (adj_out (V3 m) c)

/-- The kernel's result: the scores of the first sequence's nodes, then those of the second's. -/
theorem V5_left (n : Fin 10000) :
    V5 m c main_v0 (ix2 0 ⟨n.val, by omega⟩) = result m c (m ((c : Thread nD τ).loc main_arg0)) n := by
  refine (congrFun (V5_v0 m c) _).trans ((joined_left _ n).trans ((congrFun (V4_v8 m c) _).trans ?_))
  exact scoreOf_eq m c _ _ (V3_v5_0 m c) n

theorem V5_right (n : Fin 10000) :
    V5 m c main_v0 (ix2 0 ⟨10000 + n.val, by omega⟩) = result m c (m ((c : Thread nD τ).loc main_arg1)) n := by
  refine (congrFun (V5_v0 m c) _).trans ((joined_right _ n).trans ((congrFun (V4_v8 m c) _).trans ?_))
  exact scoreOf_eq m c _ _ (V3_v5_1 m c) n

end Cert.KernelIdeal.Hand
-- ==== Proof.ReferenceIdeal.Scores.lean ====
/- The reference's result read at an index: the sum of two scores. -/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Hand

open Idealize.ShloMosaic Cert.ReferenceIdeal Cert.ReferenceIdeal.Gen Cert.ReferenceIdeal.Read Cert.Spec

variable (x0 x1 : Vec Ideal S1x10000x128 .f32) (x2 x3 x4 : Vec Ideal S10000x10000 .f32) (x5 : Vec Ideal S128x128 .f32)
  (x6 : Vec Ideal S128 .f32) (x7 : Vec Ideal S_ .f32) (x8 : Vec Ideal S1x128x128 .f32) (x9 : Vec Ideal S1 .f32)

/-- One layer of the reference at a node and a feature, as a formula of its arguments. -/
def node (s : Vec Ideal S1x10000x128 .f32) (A : Vec Ideal S10000x10000 .f32) (n : Fin 10000) (k : Fin 128) : EReal :=
  layer (fun n r => A (ix2 n r)) (proj (fun n i => s (ix3 0 n i)) (fun i k => x5 (ix2 i k))) (fun k => x6 (ix1 k)) (x7 ix0) n k

theorem v11_apply (n : Fin 10000) (k : Fin 128) :
    val_main_v11 (F := Ideal) x0 x2 x5 x6 x7 (ix3 0 n k) = node x5 x6 x7 x0 x2 n k := by
  unfold node layer proj prelu
  pointwise [val_main_v11, val_main_v10, val_main_v9, val_main_v8, val_main_v7, val_main_cst, val_main_v6, val_main_v5, val_main_v4,
    val_main_v3, val_main_v2, val_main_v1, val_main_v0, Host.dotGeneral,
    dot_S1x10000x128_S128x128_S1x10000x128_2_0_01_1_n_n, dot_S10000x10000_S10000x128_S10000x128_1_0_0_1_n_n]

theorem v23_eq : val_main_v23 (F := Ideal) x0 x3 x5 x6 x7 = val_main_v11 x0 x3 x5 x6 x7 := rfl

theorem v35_eq : val_main_v35 (F := Ideal) x0 x4 x5 x6 x7 = val_main_v11 x0 x4 x5 x6 x7 := rfl

theorem v65_eq : val_main_v65 (F := Ideal) x1 x2 x5 x6 x7 = val_main_v11 x1 x2 x5 x6 x7 := rfl

theorem v44_apply (k : Fin 128) :
    val_main_v44 (F := Ideal) x0 x3 x5 x6 x7 (ix2 0 k) = readout (∑ n, node x5 x6 x7 x0 x3 n k) := by
  unfold readout Ideal.logistic
  pointwise [val_main_v44, val_main_v43, val_main_v42, val_main_v41, val_main_v40, val_main_v39, val_main_v38, val_main_v37, val_main_v36,
    val_main_cst_2, val_main_cst_3, val_main_cst_4, val_main_cst_5, v23_eq, v11_apply]

theorem v53_eq : val_main_v53 (F := Ideal) x0 x4 x5 x6 x7 = val_main_v44 x0 x4 x5 x6 x7 := rfl

/-- A score of the reference before the two are put side by side. -/
theorem v73_apply (n : Fin 10000) :
    val_main_v73 (F := Ideal) x0 x2 x3 x5 x6 x7 x8 x9 (ix2 0 n)
      = score (fun j => readout (∑ n, node x5 x6 x7 x0 x3 n j)) (fun i j => x8 (ix3 0 i j)) (fun i => node x5 x6 x7 x0 x2 n i) (x9 (ix1 0)) := by
  unfold score
  pointwise [val_main_v73, val_main_v72, val_main_v71, val_main_v70, val_main_v69, val_main_v68, val_main_v67, val_main_v66, Host.dotGeneral,
    dot_S1x10000x128_S128x1x10000_S1x10000_2_0_n_n_01_12, dot_S128x128_S1x10000x128_S128x1x10000_0_2_1_01_n_n, v11_apply, v44_apply]

theorem v79_apply (n : Fin 10000) :
    val_main_v79 (F := Ideal) x0 x1 x2 x3 x5 x6 x7 x8 x9 (ix2 0 n)
      = score (fun j => readout (∑ n, node x5 x6 x7 x0 x3 n j)) (fun i j => x8 (ix3 0 i j)) (fun i => node x5 x6 x7 x1 x2 n i) (x9 (ix1 0)) := by
  unfold score
  pointwise [val_main_v79, val_main_v78, val_main_v77, val_main_v76, val_main_v75, val_main_v74, val_main_v67, val_main_v66, Host.dotGeneral,
    dot_S1x10000x128_S128x1x10000_S1x10000_2_0_n_n_01_12, dot_S128x128_S1x10000x128_S128x1x10000_0_2_1_01_n_n, v65_eq, v11_apply, v44_apply]

theorem v88_eq : val_main_v88 (F := Ideal) x0 x2 x4 x5 x6 x7 x8 x9 = val_main_v73 x0 x2 x4 x5 x6 x7 x8 x9 := rfl

theorem v94_eq : val_main_v94 (F := Ideal) x0 x1 x2 x4 x5 x6 x7 x8 x9 = val_main_v79 x0 x1 x2 x4 x5 x6 x7 x8 x9 := rfl

theorem v96_left (n : Fin 10000) :
    val_main_v96 (F := Ideal) x0 x1 x2 x3 x4 x5 x6 x7 x8 x9 (ix2 0 ⟨n.val, by omega⟩)
      = score (fun j => readout (∑ n, node x5 x6 x7 x0 x3 n j)) (fun i j => x8 (ix3 0 i j)) (fun i => node x5 x6 x7 x0 x2 n i) (x9 (ix1 0))
        + score (fun j => readout (∑ n, node x5 x6 x7 x0 x4 n j)) (fun i j => x8 (ix3 0 i j)) (fun i => node x5 x6 x7 x0 x2 n i)
          (x9 (ix1 0)) := by
  rw [← v73_apply, ← v73_apply]
  pointwise [val_main_v96, val_main_v95, val_main_v80, v88_eq]

theorem v96_right (n : Fin 10000) :
    val_main_v96 (F := Ideal) x0 x1 x2 x3 x4 x5 x6 x7 x8 x9 (ix2 0 ⟨10000 + n.val, by omega⟩)
      = score (fun j => readout (∑ n, node x5 x6 x7 x0 x3 n j)) (fun i j => x8 (ix3 0 i j)) (fun i => node x5 x6 x7 x1 x2 n i) (x9 (ix1 0))
        + score (fun j => readout (∑ n, node x5 x6 x7 x0 x4 n j)) (fun i j => x8 (ix3 0 i j)) (fun i => node x5 x6 x7 x1 x2 n i)
          (x9 (ix1 0)) := by
  rw [← v79_apply, ← v79_apply]
  pointwise [val_main_v96, val_main_v95, val_main_v80, v94_eq]

end Cert.ReferenceIdeal.Hand
-- ==== Proof.Equation.lean ====
/- The two programs leave the same scores: the kernel's folded score of a node is the sum of the reference's two, its factors being real. -/
module

public import proofs.«01_k».proof.Defs
public import proofs.«01_k».proof.Proof.Gen.Pre_entries_finite
public import proofs.«01_k».proof.Proof.Gen.ReferenceIdeal.Run
public import proofs.«01_k».proof.Proof.KernelIdeal.HostValue
public import proofs.«01_k».proof.Proof.ReferenceIdeal.Scores

@[expose] public section

set_option maxRecDepth 16384

noncomputable section

namespace Cert.Equation

open Idealize.ShloMosaic Idealize.SL.Sem Cert.Spec

/-- Below the bit pattern of infinity in absolute value is a real. -/
theorem isReal_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- A tested array's entries are real. -/
theorem isReal_of_test {s : Shape} (h : (⟨0, ![]⟩ : Shape).BroadcastsInDim s (![] : Fin 0 → Fin s.rank)) (x : FVec Ideal s .f32)
    (hx : cmpf .olt (Host.absf x) (broadcastInDim s ![] h (constant (F := Ideal) ⟨0, ![]⟩ .f32 0x7F800000#32)) = fun _ => 1#1) :
    ∀ i, IsReal (x i) :=
  fun i => isReal_of_lt _ (congrFun hx i)

/-- A tested number is real. -/
theorem isReal_of_test0 (x : FVec Ideal (⟨0, ![]⟩ : Shape) .f32)
    (hx : cmpf .olt (Host.absf x) (constant (F := Ideal) ⟨0, ![]⟩ .f32 0x7F800000#32) = fun _ => 1#1) :
    ∀ i, IsReal (x i) :=
  fun i => isReal_of_lt _ (congrFun hx i)

section scores

variable {x0 x1 : Vec Ideal Cert.ReferenceIdeal.S1x10000x128 .f32} {x2 x3 x4 : Vec Ideal Cert.ReferenceIdeal.S10000x10000 .f32}
  {x5 : Vec Ideal Cert.ReferenceIdeal.S128x128 .f32} {x6 : Vec Ideal Cert.ReferenceIdeal.S128 .f32} {x7 : Vec Ideal Cert.ReferenceIdeal.S_ .f32}
  {x8 : Vec Ideal Cert.ReferenceIdeal.S1x128x128 .f32}

theorem isReal_node (h5 : ∀ i, IsReal (x5 i)) (h6 : ∀ i, IsReal (x6 i)) (h7 : ∀ i, IsReal (x7 i)) (h0 : ∀ i, IsReal (x0 i))
    (h2 : ∀ i, IsReal (x2 i)) (n : Fin 10000) (k : Fin 128) : IsReal (Cert.ReferenceIdeal.Hand.node x5 x6 x7 x0 x2 n k) :=
  IsReal.layer (fun _ _ => h2 _) (IsReal.proj (fun _ _ => h0 _) (fun _ _ => h5 _)) (fun _ => h6 _) (h7 _) n k

end scores

section run

variable (m : (ℓ : Loc Cert.KernelIdeal.nD Cert.KernelIdeal.τ Cert.KernelIdeal.sig) → Buf (Elt Ideal) ℓ)

/-- An argument's contents at launch. -/
abbrev arg (c : Dev Cert.KernelIdeal.nD) (b : Ref Cert.KernelIdeal.sig .tc) :=
  m ((c.tc : Thread Cert.KernelIdeal.nD Cert.KernelIdeal.τ).loc b)

open Cert.KernelIdeal in
/-- The reference's function of the kernel's arguments. -/
abbrev expected (c : Dev Cert.KernelIdeal.nD) : Vec Ideal Cert.ReferenceIdeal.S1x20000 .f32 :=
  Cert.ReferenceIdeal.Read.val_main_v96 (F := Ideal) (arg m c main_arg0) (arg m c main_arg1) (arg m c main_arg2) (arg m c main_arg3)
    (arg m c main_arg4) (arg m c main_arg5) (arg m c main_arg6) (arg m c main_arg7) (arg m c main_arg8) (arg m c main_arg9)

open Cert.KernelIdeal in
/-- The kernel's result is the reference's function of the same arguments. -/
theorem result_eq (h : Cert.Pre_KernelIdeal_entries_finite m) (c : Dev Cert.KernelIdeal.nD) :
    (Cert.KernelIdeal.Hand.V5 m c main_v0 : Vec Ideal Cert.ReferenceIdeal.S1x20000 .f32) = expected m c := by
  obtain ⟨t0, t1, t2, t5, t6, t7, t8⟩ := h c
  have h0 := isReal_of_test _ (arg m c main_arg0) t0
  have h1 := isReal_of_test _ (arg m c main_arg1) t1
  have h2 := isReal_of_test _ (arg m c main_arg2) t2
  have h5 := isReal_of_test _ (arg m c main_arg5) t5
  have h6 := isReal_of_test _ (arg m c main_arg6) t6
  have h7 := isReal_of_test0 (arg m c main_arg7) t7
  have h8 := isReal_of_test _ (arg m c main_arg8) t8
  refine funext fun y => ?_
  obtain ⟨q, rfl⟩ : ∃ q : Fin 20000, y = ix2 0 q := ⟨y 1, by
    funext d; refine Fin.cases (Subsingleton.elim (α := Fin 1) _ _) (fun d => ?_) d
    obtain rfl : d = 0 := Subsingleton.elim _ _
    rfl⟩
  by_cases hq : q.val < 10000
  · refine Eq.trans (α := EReal) (Cert.KernelIdeal.Hand.V5_left m c ⟨q.val, hq⟩) ?_
    refine Eq.trans (α := EReal) ?_ (Cert.ReferenceIdeal.Hand.v96_left (arg m c main_arg0) (arg m c main_arg1) (arg m c main_arg2)
      (arg m c main_arg3) (arg m c main_arg4) (arg m c main_arg5) (arg m c main_arg6) (arg m c main_arg7) (arg m c main_arg8)
      (arg m c main_arg9) ⟨q.val, hq⟩).symm
    exact folded_eq _ (fun j => isReal_readout _) (fun j => isReal_readout _) (fun i => isReal_node h5 h6 h7 h0 h2 _ i) (fun _ _ => h8 _)
  · obtain ⟨n, hn⟩ : ∃ n : Fin 10000, q = ⟨10000 + n.val, Nat.add_lt_add_left n.isLt 10000⟩ := ⟨⟨q.val - 10000, by omega⟩, Fin.ext (by simp; omega)⟩
    subst hn
    refine Eq.trans (α := EReal) (Cert.KernelIdeal.Hand.V5_right m c n) ?_
    refine Eq.trans (α := EReal) ?_ (Cert.ReferenceIdeal.Hand.v96_right (arg m c main_arg0) (arg m c main_arg1) (arg m c main_arg2)
      (arg m c main_arg3) (arg m c main_arg4) (arg m c main_arg5) (arg m c main_arg6) (arg m c main_arg7) (arg m c main_arg8)
      (arg m c main_arg9) n).symm
    exact folded_eq _ (fun j => isReal_readout _) (fun j => isReal_readout _) (fun i => isReal_node h5 h6 h7 h1 h2 _ i) (fun _ _ => h8 _)

end run

end Cert.Equation
-- ==== Proof.lean ====
/- The claims, put together: the two kernels' runs, the reference's run, and the equation of the scores. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_entries_finite
public import proofs.«01_k».proof.Proof.Kernel.Run
public import proofs.«01_k».proof.Proof.KernelIdeal.Run
public import proofs.«01_k».proof.Proof.Equation

@[expose] public section

set_option maxRecDepth 16384

noncomputable section

namespace Cert.Proof

open Idealize.ShloMosaic Idealize.SL.Sem

theorem frame_kernel : Cert.quiescent_Kernel := fun m g _ => Cert.Kernel.Hand.quiescent m g

theorem frame_kernelIdeal : Cert.quiescent_KernelIdeal := fun m g _ => Cert.KernelIdeal.Hand.quiescent m g

theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The kernel and the reference leave the same scores. -/
theorem equation : Cert.algebraic_KernelIdeal_ReferenceIdeal_pre_entries_finite := by
  intro m g m' g' hpre hargs
  refine ⟨fun c => Cert.KernelIdeal.Hand.V5 m c Cert.KernelIdeal.main_v0, ?_, ?_⟩
  · refine (θ_run Cert.KernelIdeal.defs _ _).mono (fun r h c => ?_) (Cert.KernelIdeal.Hand.run m g)
    have arg (a : Ref Cert.KernelIdeal.sig .tc) (hs : ¬ (Proc.devRef .tc a : DevRef Cert.KernelIdeal.τ Cert.KernelIdeal.sig).isScoped)
        (ha : a ∈ Cert.KernelIdeal.Hand.argRefs) :
        r.2.mem ((c.tc : Thread Cert.KernelIdeal.nD Cert.KernelIdeal.τ).loc a) = m ((c.tc : Thread Cert.KernelIdeal.nD Cert.KernelIdeal.τ).loc a) :=
      (h.1 c _ (Cert.KernelIdeal.Hand.mem_uc a hs)).trans (Cert.KernelIdeal.Hand.W5_args m c a ha)
    exact ⟨h.1 c _ (Cert.KernelIdeal.Hand.mem_uc Cert.KernelIdeal.main_v0 (by decide)), arg _ (by decide) (by decide), arg _ (by decide) (by decide),
      arg _ (by decide) (by decide), arg _ (by decide) (by decide), arg _ (by decide) (by decide), arg _ (by decide) (by decide),
      arg _ (by decide) (by decide), arg _ (by decide) (by decide), arg _ (by decide) (by decide), arg _ (by decide) (by decide)⟩
  · refine (θ_run Cert.ReferenceIdeal.defs _ _).mono (fun r h c => ⟨(h c).1.trans ?_, (h c).2⟩) (Cert.ReferenceIdeal.Value.run m' g')
    obtain ⟨e0, e1, e2, e3, e4, e5, e6, e7, e8, e9⟩ := hargs c
    rw [Cert.ReferenceIdeal.Read.val_main_v96_eq, e0, e1, e2, e3, e4, e5, e6, e7, e8, e9]
    exact (Cert.Equation.result_eq m hpre c).symm

theorem claim : Cert.Claim :=
  ⟨Cert.Kernel.Gen.facts, Cert.KernelIdeal.Gen.facts, Cert.ReferenceIdeal.Gen.facts, Cert.Pre_entries_finite.Gen.facts,
    frame_kernel, frame_kernelIdeal, fun m g _ => frame_kernelIdeal m g trivial, frame_referenceIdeal,
    fun m g _ => frame_referenceIdeal m g trivial, trivial, equation⟩

end Cert.Proof
